-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_division_distributes [hPre_division_distributes : Cert.Pre_division_distributes.Facts] (m : (ℓ : Loc Cert.KernelIdeal.nD Cert.KernelIdeal.τ Cert.KernelIdeal.sig) → Buf (Elt Ideal) ℓ) : Prop :=
  ∀ c : Dev Cert.KernelIdeal.nD,
    (Cert.Pre_division_distributes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_division_distributes [hPre_division_distributes : Cert.Pre_division_distributes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_division_distributes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_division_distributes [hKernelIdeal : Cert.KernelIdeal.Facts] [hPre_division_distributes : Cert.Pre_division_distributes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_division_distributes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_division_distributes [hReferenceIdeal : Cert.ReferenceIdeal.Facts] [hPre_division_distributes : Cert.Pre_division_distributes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_division_distributes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_division_distributes [hKernelIdeal : Cert.KernelIdeal.Facts] [hReferenceIdeal : Cert.ReferenceIdeal.Facts] [hPre_division_distributes : Cert.Pre_division_distributes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_division_distributes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_division_distributes : Cert.Pre_division_distributes.Facts),
    quiescent_Kernel (hKernel := hKernel)
    ∧ quiescent_KernelIdeal (hKernelIdeal := hKernelIdeal)
    ∧ quiescent_KernelIdeal_pre_division_distributes (hKernelIdeal := hKernelIdeal) (hPre_division_distributes := hPre_division_distributes)
    ∧ quiescent_ReferenceIdeal (hReferenceIdeal := hReferenceIdeal)
    ∧ quiescent_ReferenceIdeal_pre_division_distributes (hReferenceIdeal := hReferenceIdeal) (hPre_division_distributes := hPre_division_distributes)
    ∧ preserves_Kernel_KernelIdeal
    ∧ algebraic_KernelIdeal_ReferenceIdeal_pre_division_distributes (hKernelIdeal := hKernelIdeal) (hReferenceIdeal := hReferenceIdeal) (hPre_division_distributes := hPre_division_distributes)
-- ==== Pre_division_distributes.lean ====
abbrev S1 : Shape := ⟨1, ![1]⟩
abbrev S524288x2 : Shape := ⟨2, ![524288, 2]⟩
abbrev S131072 : Shape := ⟨1, ![131072]⟩
abbrev S131072x1 : Shape := ⟨2, ![131072, 1]⟩
abbrev S_ : Shape := ⟨0, ![]⟩

class Facts : Prop where

variable [Facts]

def fn {F : FTy → Type} [FloatOps F] (main_arg0 : FVec F S1 .f32) (main_arg1 : FVec F S524288x2 .f32) (main_arg2 : FVec F S131072 .f32) (main_arg3 : FVec F S131072x1 .f32) (main_arg4 : FVec F S_ .f32) (main_arg5 : FVec F S_ .f32) (main_arg6 : FVec F S_ .f32) (main_arg7 : FVec F S_ .f32) (main_arg8 : FVec F S_ .f32) : IVec S_ 1 :=
  let main_cst : FVec F S_ .f32 := constant S_ .f32 0xFF800000#32
  let main_v0 : IVec S_ 1 := cmpf .ogt main_arg4 main_cst
  let main_cst_0 : FVec F S_ .f32 := constant S_ .f32 0x7F800000#32
  let main_v1 : IVec S_ 1 := cmpf .olt main_arg6 main_cst_0
  let main_v2 : IVec S_ 1 := andi main_v0 main_v1
  let main_v3 : FVec F S_ .f32 := Host.absf main_arg7
  let main_cst_1 : FVec F S_ .f32 := constant S_ .f32 0x7F800000#32
  let main_v4 : IVec S_ 1 := cmpf .olt main_v3 main_cst_1
  let main_v5 : IVec S_ 1 := andi main_v2 main_v4
  main_v5
-- ==== Kernel.lean ====
abbrev S1 : Shape := ⟨1, ![1]⟩
abbrev S524288x2 : Shape := ⟨2, ![524288, 2]⟩
abbrev S131072 : Shape := ⟨1, ![131072]⟩
abbrev S131072x1 : Shape := ⟨2, ![131072, 1]⟩
abbrev S_ : Shape := ⟨0, ![]⟩
abbrev S8192x128 : Shape := ⟨2, ![8192, 128]⟩
abbrev S1024x128 : Shape := ⟨2, ![1024, 128]⟩
abbrev S5 : Shape := ⟨1, ![5]⟩
abbrev S3 : Shape := ⟨1, ![3]⟩
abbrev S1x1024x128 : Shape := ⟨3, ![1, 1024, 128]⟩
abbrev S1x1x1 : Shape := ⟨3, ![1, 1, 1]⟩
abbrev S1024x127 : Shape := ⟨2, ![1024, 127]⟩
abbrev S1024x1 : Shape := ⟨2, ![1024, 1]⟩

abbrev nBuf : Space → Nat
  | .hbm => 20
  | .vmem => 6
  | .smem => 3
  | _ => 0

abbrev bufTy : (tb : Table) → Fin (tcTables nBuf tb) → BufTy
  | .hbm, ⟨0, _⟩ => ⟨S1, .f32⟩
  | .hbm, ⟨1, _⟩ => ⟨S524288x2, .f32⟩
  | .hbm, ⟨2, _⟩ => ⟨S131072, .f32⟩
  | .hbm, ⟨3, _⟩ => ⟨S131072x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x128, .f32⟩
  | .hbm, ⟨10, _⟩ => ⟨S1024x128, .f32⟩
  | .hbm, ⟨11, _⟩ => ⟨S1024x128, .f32⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S5, .f32⟩
  | .hbm, ⟨18, _⟩ => ⟨S8192x128, .f32⟩
  | .hbm, ⟨19, _⟩ => ⟨S524288x2, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .smem, ⟨0, _⟩ => ⟨S1, .f32⟩
  | .local _ .smem, ⟨1, _⟩ => ⟨S5, .f32⟩
  | .local _ .smem, ⟨2, _⟩ => ⟨S3, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg0_0 : Ref sig .tc := ⟨.smem, 0, rfl⟩
abbrev cc0_stg1_0 : Ref sig .tc := ⟨.smem, 1, rfl⟩
abbrev cc0_scratch0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1 : Shape := ⟨1, ![1]⟩
abbrev S524288x2 : Shape := ⟨2, ![524288, 2]⟩
abbrev S131072 : Shape := ⟨1, ![131072]⟩
abbrev S131072x1 : Shape := ⟨2, ![131072, 1]⟩
abbrev S_ : Shape := ⟨0, ![]⟩
abbrev S524288x1 : Shape := ⟨2, ![524288, 1]⟩
abbrev S1x1 : Shape := ⟨2, ![1, 1]⟩
abbrev S1x131072 : Shape := ⟨2, ![1, 131072]⟩
abbrev S524288x131072 : Shape := ⟨2, ![524288, 131072]⟩
abbrev S524288 : Shape := ⟨1, ![524288]⟩

abbrev nBuf : Space → Nat
  | .hbm => 105
  | .vmem => 0
  | .smem => 0
  | _ => 0

abbrev bufTy : (tb : Table) → Fin (tcTables nBuf tb) → BufTy
  | .hbm, ⟨0, _⟩ => ⟨S1, .f32⟩
  | .hbm, ⟨1, _⟩ => ⟨S524288x2, .f32⟩
  | .hbm, ⟨2, _⟩ => ⟨S131072, .f32⟩
  | .hbm, ⟨3, _⟩ => ⟨S131072x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S524288x1, .f32⟩
  | .hbm, ⟨14, _⟩ => ⟨S_, .f32⟩
  | .hbm, ⟨15, _⟩ => ⟨S524288x1, .f32⟩
  | .hbm, ⟨16, _⟩ => ⟨S1x1, .f32⟩
  | .hbm, ⟨17, _⟩ => ⟨S524288x1, .f32⟩
  | .hbm, ⟨18, _⟩ => ⟨S524288x1, .f32⟩
  | .hbm, ⟨19, _⟩ => ⟨S1x131072, .f32⟩
  | .hbm, ⟨20, _⟩ => ⟨S524288x131072, .f32⟩
  | .hbm, ⟨21, _⟩ => ⟨S524288x131072, .f32⟩
  | .hbm, ⟨22, _⟩ => ⟨S524288x131072, .i1⟩
  | .hbm, ⟨23, _⟩ => ⟨S524288x131072, .i32⟩
  | .hbm, ⟨24, _⟩ => ⟨S_, .i32⟩
  | .hbm, ⟨25, _⟩ => ⟨S524288, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S524288, .i32⟩
  | .hbm, ⟨30, _⟩ => ⟨S524288, .i32⟩
  | .hbm, ⟨31, _⟩ => ⟨S_, .i32⟩
  | .hbm, ⟨32, _⟩ => ⟨S524288, .i32⟩
  | .hbm, ⟨33, _⟩ => ⟨S524288, .i32⟩
  | .hbm, ⟨34, _⟩ => ⟨S_, .i32⟩
  | .hbm, ⟨35, _⟩ => ⟨S524288, .i32⟩
  | .hbm, ⟨36, _⟩ => ⟨S524288, .i32⟩
  | .hbm, ⟨37, _⟩ => ⟨S_, .i32⟩
  | .hbm, ⟨38, _⟩ => ⟨S524288, .i32⟩
  | .hbm, ⟨39, _⟩ => ⟨S524288, .i1⟩
  | .hbm, ⟨40, _⟩ => ⟨S_, .i32⟩
  | .hbm, ⟨41, _⟩ => ⟨S524288, .i32⟩
  | .hbm, ⟨42, _⟩ => ⟨S524288, .i32⟩
  | .hbm, ⟨43, _⟩ => ⟨S524288, .i32⟩
  | .hbm, ⟨44, _⟩ => ⟨S524288x1, .i32⟩
  | .hbm, ⟨45, _⟩ => ⟨S524288, .f32⟩
  | .hbm, ⟨46, _⟩ => ⟨S524288x1, .f32⟩
  | .hbm, ⟨47, _⟩ => ⟨S_, .i32⟩
  | .hbm, ⟨48, _⟩ => ⟨S524288, .i32⟩
  | .hbm, ⟨49, _⟩ => ⟨S524288, .i1⟩
  | .hbm, ⟨50, _⟩ => ⟨S_, .i32⟩
  | .hbm, ⟨51, _⟩ => ⟨S524288, .i32⟩
  | .hbm, ⟨52, _⟩ => ⟨S524288, .i32⟩
  | .hbm, ⟨53, _⟩ => ⟨S524288, .i32⟩
  | .hbm, ⟨54, _⟩ => ⟨S524288x1, .i32⟩
  | .hbm, ⟨55, _⟩ => ⟨S524288, .f32⟩
  | .hbm, ⟨56, _⟩ => ⟨S524288x1, .f32⟩
  | .hbm, ⟨57, _⟩ => ⟨S_, .i32⟩
  | .hbm, ⟨58, _⟩ => ⟨S524288, .i32⟩
  | .hbm, ⟨59, _⟩ => ⟨S524288, .i32⟩
  | .hbm, ⟨60, _⟩ => ⟨S_, .i32⟩
  | .hbm, ⟨61, _⟩ => ⟨S524288, .i32⟩
  | .hbm, ⟨62, _⟩ => ⟨S524288, .i1⟩
  | .hbm, ⟨63, _⟩ => ⟨S_, .i32⟩
  | .hbm, ⟨64, _⟩ => ⟨S524288, .i32⟩
  | .hbm, ⟨65, _⟩ => ⟨S524288, .i32⟩
  | .hbm, ⟨66, _⟩ => ⟨S524288, .i32⟩
  | .hbm, ⟨67, _⟩ => ⟨S524288x1, .i32⟩
  | .hbm, ⟨68, _⟩ => ⟨S524288x1, .f32⟩
  | .hbm, ⟨69, _⟩ => ⟨S_, .i32⟩
  | .hbm, ⟨70, _⟩ => ⟨S524288, .i32⟩
  | .hbm, ⟨71, _⟩ => ⟨S524288, .i1⟩
  | .hbm, ⟨72, _⟩ => ⟨S_, .i32⟩
  | .hbm, ⟨73, _⟩ => ⟨S524288, .i32⟩
  | .hbm, ⟨74, _⟩ => ⟨S524288, .i32⟩
  | .hbm, ⟨75, _⟩ => ⟨S524288, .i32⟩
  | .hbm, ⟨76, _⟩ => ⟨S524288x1, .i32⟩
  | .hbm, ⟨77, _⟩ => ⟨S524288x1, .f32⟩
  | .hbm, ⟨78, _⟩ => ⟨S524288x1, .f32⟩
  | .hbm, ⟨79, _⟩ => ⟨S_, .f32⟩
  | .hbm, ⟨80, _⟩ => ⟨S524288x1, .f32⟩
  | .hbm, ⟨81, _⟩ => ⟨S524288x1, .i1⟩
  | .hbm, ⟨82, _⟩ => ⟨S_, .f32⟩
  | .hbm, ⟨83, _⟩ => ⟨S524288x1, .f32⟩
  | .hbm, ⟨84, _⟩ => ⟨S524288x1, .f32⟩
  | .hbm, ⟨85, _⟩ => ⟨S524288x1, .f32⟩
  | .hbm, ⟨86, _⟩ => ⟨S524288x1, .f32⟩
  | .hbm, ⟨87, _⟩ => ⟨S524288x1, .f32⟩
  | .hbm, ⟨88, _⟩ => ⟨S524288x1, .f32⟩
  | .hbm, ⟨89, _⟩ => ⟨S524288x1, .f32⟩
  | .hbm, ⟨90, _⟩ => ⟨S524288x1, .f32⟩
  | .hbm, ⟨91, _⟩ => ⟨S524288x1, .f32⟩
  | .hbm, ⟨92, _⟩ => ⟨S524288x1, .f32⟩
  | .hbm, ⟨93, _⟩ => ⟨S524288x1, .f32⟩
  | .hbm, ⟨94, _⟩ => ⟨S524288x1, .f32⟩
  | .hbm, ⟨95, _⟩ => ⟨S524288x1, .f32⟩
  | .hbm, ⟨96, _⟩ => ⟨S524288x1, .f32⟩
  | .hbm, ⟨97, _⟩ => ⟨S524288x1, .f32⟩
  | .hbm, ⟨98, _⟩ => ⟨S524288x1, .f32⟩
  | .hbm, ⟨99, _⟩ => ⟨S524288x1, .f32⟩
  | .hbm, ⟨100, _⟩ => ⟨S524288x1, .f32⟩
  | .hbm, ⟨101, _⟩ => ⟨S524288x1, .f32⟩
  | .hbm, ⟨102, _⟩ => ⟨S524288x1, .f32⟩
  | .hbm, ⟨103, _⟩ => ⟨S524288x1, .f32⟩
  | .hbm, ⟨104, _⟩ => ⟨S524288x2, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_c_0 : Ref sig .tc := ⟨.hbm, 26, rfl⟩
abbrev main_c_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v15 : Ref sig .tc := ⟨.hbm, 33, rfl⟩
abbrev main_c_2 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]
-- ==== Proof.Body.lean ====
/- Hand-written: WHAT ONE GRID POINT LEAVES BEHIND, as values. The first point stores the three coefficients in the
   scratch (`coefs`) and every point stores one block: `block` of the three words the scratch holds and of the point's
   block of `x`. Later points leave the scratch alone. So after every point the scratch holds the first point's coefficients
   (`scratch_all` in Array.lean) and the output's staging buffer the block of them (`stored_all` there). -/
module

public import proofs.«01_k».proof.Proof.Gen.KernelIdeal.Frame
public import Idealize.ShloMosaic.Lib.Pipeline.Value

@[expose] public section

noncomputable section

namespace Cert.Proof.Body

open Cert.KernelIdeal Cert.KernelIdeal.Gen Idealize.ShloMosaic Idealize.ShloMosaic.TcCoe Idealize.SL.Sem

variable {F : FTy → Type} [FloatOps F]

/-- The one place of a one-word array. -/
def word1 : S1.Idx := fun a => match a with | ⟨0, _⟩ => (0 : Fin 1)

/-- Place `k` of the five parameters. -/
def word5 (k : Fin 5) : S5.Idx := fun a => match a with | ⟨0, _⟩ => k

/-- Place `k` of the three coefficients. -/
def word3 (k : Fin 3) : S3.Idx := fun a => match a with | ⟨0, _⟩ => k

/-- The first coefficient, `(Tau * u_t - K * delta) / J`, of the time, the parameters and the two tables. -/
def coefA (t : Vec F S1 .f32) (p : Vec F S5 .f32) (ts us : Vec F S1024x128 .f32) : F .f32 :=
  k0_pay13 (t word1) (k0_pay6 (t word1) ts) (k0_pay7 (t word1) ts) (k0_pay9 (t word1) ts us) (k0_pay10 (t word1) ts us)
    (p (word5 0)) (p (word5 2)) (p (word5 3)) (p (word5 4))

/-- The second coefficient, `R / J`. -/
def coefR (p : Vec F S5 .f32) : F .f32 := k0_pay14 (p (word5 0)) (p (word5 1))

/-- The third coefficient, `K / J`. -/
def coefK (p : Vec F S5 .f32) : F .f32 := k0_pay15 (p (word5 0)) (p (word5 2))

/-- The three coefficients as the scratch holds them. -/
def coefs (t : Vec F S1 .f32) (p : Vec F S5 .f32) (ts us : Vec F S1024x128 .f32) : Vec F S3 .f32 :=
  fun i => match i 0 with
    | ⟨0, _⟩ => coefA t p ts us
    | ⟨1, _⟩ => coefR p
    | ⟨_ + 2, _⟩ => coefK p

/-- The block a point stores, of the scratch's three words and the point's block of `x`. -/
def block (s : Vec F S3 .f32) (x : Vec F S1024x128 .f32) : Vec F S1024x128 .f32 :=
  k0_pay16 (s (word3 0)) (s (word3 1)) (s (word3 2)) x

/-- The origin of a load of a whole block. -/
theorem hz : (![0, 0] : Fin 2 → Nat) = fun _ => 0 := funext fun a => by fin_cases a <;> rfl

/-- A load of a whole staged block reads the block. -/
theorem load_block (a : Memref sig .tc .vmem S1024x128 .f32) (h : a.IsWhole) (x : Vec F S1024x128 .f32) :
    View.readAt (Elt F) a.view (Rect.unit ![0, 0] S1024x128.size inb_S1024x128_S1024x128_0_0).toLoadRect (h.unread x) = x := by
  rw [View.readAt_eq_ld, h.read_unread, View.ld_unit_zero hz]

/-- A one-word load of the time reads it. -/
theorem load_time (a : Memref sig .tc .smem S1 .f32) (h : a.IsWhole) (x : Vec F S1 .f32)
    (inb : ∀ b, (![0] : Fin 1 → Nat) b + S1.size b ≤ S1.size b) (j : S1.Idx) :
    View.readAt (Elt F) a.view (Rect.unit (s := S1) ![0] S1.size inb).toLoadRect (h.unread x) j = x word1 := by
  rw [View.readAt_eq_ld, h.read_unread]
  refine congrArg x (funext fun b => ?_)
  match b with
  | ⟨0, _⟩ => exact Subsingleton.elim (α := Fin 1) _ _

/-- A one-word load of the parameters at offset `k` reads parameter `k`. -/
theorem load_param (a : Memref sig .tc .smem S5 .f32) (h : a.IsWhole) (x : Vec F S5 .f32) (k : Fin 5)
    (inb : ∀ b, (![k.val] : Fin 1 → Nat) b + S1.size b ≤ S5.size b) (j : S1.Idx) :
    View.readAt (Elt F) a.view (Rect.unit (s := S5) ![k.val] S1.size inb).toLoadRect (h.unread x) j = x (word5 k) := by
  rw [View.readAt_eq_ld, h.read_unread]
  refine congrArg x (funext fun b => ?_)
  match b with
  | ⟨0, _⟩ =>
    apply Fin.ext
    have hj : (j 0).val < 1 := (j 0).isLt
    show k.val + 1 * (j 0).val = k.val
    omega

/-- A one-word load of the scratch at offset `k` reads coefficient `k`. -/
theorem load_coef (a : Memref sig .tc .smem S3 .f32) (h : a.IsWhole) (x : Vec F S3 .f32) (k : Fin 3)
    (inb : ∀ b, (![k.val] : Fin 1 → Nat) b + S1.size b ≤ S3.size b) (j : S1.Idx) :
    View.readAt (Elt F) a.view (Rect.unit (s := S3) ![k.val] S1.size inb).toLoadRect (h.unread x) j = x (word3 k) := by
  rw [View.readAt_eq_ld, h.read_unread]
  refine congrArg x (funext fun b => ?_)
  match b with
  | ⟨0, _⟩ =>
    apply Fin.ext
    have hj : (j 0).val < 1 := (j 0).isLt
    show k.val + 1 * (j 0).val = k.val
    omega

/-! ## The values the first point's run reads and computes, each in closed form -/

section FirstPoint

variable (c : Dev nD) (arg1 : Memref sig .tc .smem S1 .f32) (h1 : arg1.IsWhole) (arg2 : Memref sig .tc .smem S5 .f32) (h2 : arg2.IsWhole)
  (arg3 : Memref sig .tc .vmem S1024x128 .f32) (h3 : arg3.IsWhole) (arg4 : Memref sig .tc .vmem S1024x128 .f32) (h4 : arg4.IsWhole)
  (x0 : Vec F S1 .f32) (x1 : Vec F S5 .f32) (x2 x3 : Vec F S1024x128 .f32)

/-- The time read. -/
theorem time_eq : kernelRun0_A.sl.r c arg1 h1 x0 = x0 word1 := load_time arg1 h1 x0 _ _

/-- The logarithm of `J` read. -/
theorem log_J_eq : kernelRun0_A.sl.r_5 c arg2 h2 x1 = x1 (word5 0) := load_param arg2 h2 x1 0 _ _

/-- The logarithm of `R` read. -/
theorem log_R_eq : kernelRun0_A.sl.r_6 c arg2 h2 x1 = x1 (word5 1) := load_param arg2 h2 x1 1 _ _

/-- The logarithm of `K` read. -/
theorem log_K_eq : kernelRun0_A.sl.r_7 c arg2 h2 x1 = x1 (word5 2) := load_param arg2 h2 x1 2 _ _

/-- The offset read. -/
theorem delta_eq : kernelRun0_A.sl.r_8 c arg2 h2 x1 = x1 (word5 3) := load_param arg2 h2 x1 3 _ _

/-- The logarithm of `Tau` read. -/
theorem log_Tau_eq : kernelRun0_A.sl.r_9 c arg2 h2 x1 = x1 (word5 4) := load_param arg2 h2 x1 4 _ _

/-- The time before the entry picked, from the time and the table. -/
theorem t1_eq : kernelRun0_A.sl.r_1 c arg1 h1 arg3 h3 x0 x2 = k0_pay6 (x0 word1) x2 := by
  unfold kernelRun0_A.sl.r_1; rw [time_eq, load_block]

/-- The time of the entry picked. -/
theorem t2_eq : kernelRun0_A.sl.r_2 c arg1 h1 arg3 h3 x0 x2 = k0_pay7 (x0 word1) x2 := by
  unfold kernelRun0_A.sl.r_2; rw [time_eq, load_block]

/-- The input before the entry picked. -/
theorem u1_eq : kernelRun0_A.sl.r_3 c arg1 h1 arg3 h3 arg4 h4 x0 x2 x3 = k0_pay9 (x0 word1) x2 x3 := by
  unfold kernelRun0_A.sl.r_3; rw [time_eq, load_block, load_block]

/-- The input of the entry picked. -/
theorem u2_eq : kernelRun0_A.sl.r_4 c arg1 h1 arg3 h3 arg4 h4 x0 x2 x3 = k0_pay10 (x0 word1) x2 x3 := by
  unfold kernelRun0_A.sl.r_4; rw [time_eq, load_block, load_block]

/-- The first coefficient stored. -/
theorem coefA_eq : kernelRun0_A.sl.r_13 c arg1 h1 arg2 h2 arg3 h3 arg4 h4 x0 x1 x2 x3 = coefA x0 x1 x2 x3 := by
  unfold kernelRun0_A.sl.r_13
  rw [t1_eq, t2_eq, u1_eq, u2_eq, time_eq, log_J_eq, log_K_eq, delta_eq, log_Tau_eq]
  rfl

/-- The second coefficient stored. -/
theorem coefR_eq : kernelRun0_A.sl.r_14 c arg2 h2 x1 = coefR x1 := by
  unfold kernelRun0_A.sl.r_14
  rw [log_J_eq, log_R_eq]
  rfl

/-- The third coefficient stored. -/
theorem coefK_eq : kernelRun0_A.sl.r_15 c arg2 h2 x1 = coefK x1 := by
  unfold kernelRun0_A.sl.r_15
  rw [log_J_eq, log_K_eq]
  rfl

end FirstPoint

/-! ## What each case leaves -/

/-- At a later point the stored block is `block` of what the scratch holds and the point's block of `x`. -/
theorem out_B (c : Dev nD) (i : grid0.Coords)
    (arg1 : Memref sig .tc .smem S1 .f32) (h1 : arg1.IsWhole) (arg2 : Memref sig .tc .smem S5 .f32) (h2 : arg2.IsWhole)
    (arg3 : Memref sig .tc .vmem S1024x128 .f32) (h3 : arg3.IsWhole) (arg4 : Memref sig .tc .vmem S1024x128 .f32) (h4 : arg4.IsWhole)
    (arg5 : Memref sig .tc .vmem S1024x128 .f32) (h5 : arg5.IsWhole) (arg6 : Memref sig .tc .vmem S1024x128 .f32) (h6 : arg6.IsWhole)
    (arg7 : Memref sig .tc .smem S3 .f32) (h7 : arg7.IsWhole) (hc : ¬ cond0_0 i) (x0 : Vec F S1 .f32) (x1 : Vec F S5 .f32) (x2 x3 x4 : Vec F S1024x128 .f32)
    (s : Vec F S3 .f32) :
    out0_B_5 c i arg1 h1 arg2 h2 arg3 h3 arg4 h4 arg5 h5 arg6 h6 arg7 h7 hc x0 x1 x2 x3 x4 s = block s x4 := by
  unfold out0_B_5
  rw [View.read_writes_junk_eq_canon]
  unfold kernelRun0_B
  dsimp only
  refine (View.canon_unit_zero hz inb_S1024x128_S1024x128_0_0 _).trans ?_
  unfold kernelRun0_B.sl.r_3
  rw [load_block, show kernelRun0_B.sl.r c arg7 h7 s = s (word3 0) from load_coef arg7 h7 s 0 _ _,
    show kernelRun0_B.sl.r_1 c arg7 h7 s = s (word3 1) from load_coef arg7 h7 s 1 _ _,
    show kernelRun0_B.sl.r_2 c arg7 h7 s = s (word3 2) from load_coef arg7 h7 s 2 _ _]
  rfl

/-- At the first point the stored block is `block` of the three coefficients and the point's block of `x`. -/
theorem out_A (c : Dev nD) (i : grid0.Coords)
    (arg1 : Memref sig .tc .smem S1 .f32) (h1 : arg1.IsWhole) (arg2 : Memref sig .tc .smem S5 .f32) (h2 : arg2.IsWhole)
    (arg3 : Memref sig .tc .vmem S1024x128 .f32) (h3 : arg3.IsWhole) (arg4 : Memref sig .tc .vmem S1024x128 .f32) (h4 : arg4.IsWhole)
    (arg5 : Memref sig .tc .vmem S1024x128 .f32) (h5 : arg5.IsWhole) (arg6 : Memref sig .tc .vmem S1024x128 .f32) (h6 : arg6.IsWhole)
    (arg7 : Memref sig .tc .smem S3 .f32) (h7 : arg7.IsWhole) (hc : cond0_0 i) (x0 : Vec F S1 .f32) (x1 : Vec F S5 .f32) (x2 x3 x4 : Vec F S1024x128 .f32) :
    out0_A_5 c i arg1 h1 arg2 h2 arg3 h3 arg4 h4 arg5 h5 arg6 h6 arg7 h7 hc x0 x1 x2 x3 x4
      = block (coefs x0 x1 x2 x3) x4 := by
  unfold out0_A_5
  rw [View.read_writes_junk_eq_canon]
  unfold kernelRun0_A
  dsimp only
  refine (View.canon_unit_zero hz inb_S1024x128_S1024x128_0_0 _).trans ?_
  unfold kernelRun0_A.sl.r_16
  rw [coefA_eq, coefR_eq, coefK_eq, load_block]
  rfl

/-- The first point leaves the three coefficients in the scratch. -/
theorem scratch_A (c : Dev nD) (i : grid0.Coords)
    (arg1 : Memref sig .tc .smem S1 .f32) (h1 : arg1.IsWhole) (arg2 : Memref sig .tc .smem S5 .f32) (h2 : arg2.IsWhole)
    (arg3 : Memref sig .tc .vmem S1024x128 .f32) (h3 : arg3.IsWhole) (arg4 : Memref sig .tc .vmem S1024x128 .f32) (h4 : arg4.IsWhole)
    (arg5 : Memref sig .tc .vmem S1024x128 .f32) (h5 : arg5.IsWhole) (arg6 : Memref sig .tc .vmem S1024x128 .f32) (h6 : arg6.IsWhole)
    (arg7 : Memref sig .tc .smem S3 .f32) (h7 : arg7.IsWhole) (hc : cond0_0 i) (x0 : Vec F S1 .f32) (x1 : Vec F S5 .f32) (x2 x3 x4 : Vec F S1024x128 .f32) :
    sout0_A_0 c i arg1 h1 arg2 h2 arg3 h3 arg4 h4 arg5 h5 arg6 h6 arg7 h7 hc x0 x1 x2 x3 x4 = coefs x0 x1 x2 x3 := by
  funext y
  unfold sout0_A_0
  rw [View.read_writes_junk_eq_canon]
  refine View.canon_apply_of_pieces (coefs x0 x1 x2 x3) _ ?_ y
    (scover0_A_0 c i arg1 h1 arg2 h2 arg3 h3 arg4 h4 arg5 h5 arg6 h6 arg7 h7 hc x0 x1 x2 x3 x4 y)
  unfold kernelRun0_A
  dsimp only
  intro p hp x
  simp only [List.mem_cons, List.not_mem_nil, or_false] at hp
  have hx : (x 0).val = 0 := by
    rcases hp with rfl | rfl | rfl <;> exact Nat.lt_one_iff.mp (x 0).isLt
  rcases hp with rfl | rfl | rfl
  · have e : (Rect.unit (s := S3) ![2] S1.size inb_S3_S1_2).emb x = word3 2 := by
      funext b; match b with
      | ⟨0, _⟩ => apply Fin.ext; show 2 + 1 * (x 0).val = 2; omega
    rw [e]; exact coefK_eq c arg2 h2 x1
  · have e : (Rect.unit (s := S3) ![1] S1.size inb_S3_S1_1).emb x = word3 1 := by
      funext b; match b with
      | ⟨0, _⟩ => apply Fin.ext; show 1 + 1 * (x 0).val = 1; omega
    rw [e]; exact coefR_eq c arg2 h2 x1
  · have e : (Rect.unit (s := S3) ![0] S1.size inb_S3_S1_0).emb x = word3 0 := by
      funext b; match b with
      | ⟨0, _⟩ => apply Fin.ext; show 0 + 1 * (x 0).val = 0; omega
    rw [e]; exact coefA_eq c arg1 h1 arg2 h2 arg3 h3 arg4 h4 x0 x1 x2 x3

end Cert.Proof.Body

end
-- ==== Proof.Array.lean ====
/- Hand-written: WHAT THE KERNEL'S ARRAYS HOLD. At every grid point each of the four coefficient operands is staged whole,
   and the scratch holds the same three coefficients after every point (`scratch_all`); so each point stores the block of
   those coefficients and of its own block of `x` (`stored_all`), the blocks tile the region's output (`final`), and the
   result of the program is that output reshaped (`result_eq`). The arrays that the region reads are the arguments
   reshaped and the five parameters in a row (`arr_x` to `arr_params`). -/
module

public import proofs.«01_k».proof.Proof.Body

@[expose] public section

noncomputable section

namespace Cert.Proof.Array

open Cert.KernelIdeal Cert.KernelIdeal.Gen Cert.Proof.Body Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The staged blocks -/

/-- The time is one block, the same at every step. -/
theorem index0 : ∀ t : Fin cfg0.N, win0_0.index t (0 : Fin 1) = 0 := (by decide +kernel : ∀ t : Fin grid0.N, _)
/-- The parameters are one block, the same at every step. -/
theorem index1 : ∀ t : Fin cfg0.N, win0_1.index t (0 : Fin 1) = 0 := (by decide +kernel : ∀ t : Fin grid0.N, _)
/-- So are the times. -/
theorem index2 : ∀ t : Fin cfg0.N, win0_2.index t (0 : Fin 2) = 0 ∧ win0_2.index t (1 : Fin 2) = 0 :=
  (by decide +kernel : ∀ t : Fin grid0.N, _)
/-- So are the inputs. -/
theorem index3 : ∀ t : Fin cfg0.N, win0_3.index t (0 : Fin 2) = 0 ∧ win0_3.index t (1 : Fin 2) = 0 :=
  (by decide +kernel : ∀ t : Fin grid0.N, _)
/-- Step `t` reads the `t`-th block of rows of `x`. -/
theorem index4 : ∀ t : Fin cfg0.N, win0_4.index t (0 : Fin 2) = t.val ∧ win0_4.index t (1 : Fin 2) = 0 :=
  (by decide +kernel : ∀ t : Fin grid0.N, _)
/-- Step `t` writes the `t`-th block of rows of the result. -/
theorem index5 : ∀ t : Fin cfg0.N, win0_5.index t (0 : Fin 2) = t.val ∧ win0_5.index t (1 : Fin 2) = 0 :=
  (by decide +kernel : ∀ t : Fin grid0.N, _)
/-- Every step writes its block out. -/
theorem flush5 : ∀ t : Fin cfg0.N, (cfg0.win 5).flush t = true := (by decide +kernel : ∀ t : Fin grid0.N, win0_5.flush t = true)

/-- The time is staged whole. -/
theorem iblk0_eq (c : Dev nD) (t : Fin cfg0.N) : iblk m c 0 t = V m c main_arg0 := by
  have e0 := index0 t
  funext j
  show V m c main_arg0 (((cfg0.win 0).blk t).view.emb j) = V m c main_arg0 j
  refine congrArg _ (funext fun a => Fin.ext ?_)
  match a with
  | ⟨0, _⟩ => show win0_0.index t (0 : Fin 1) * 1 + 1 * (j 0).val = (j 0).val; omega

/-- The parameters are staged whole. -/
theorem iblk1_eq (c : Dev nD) (t : Fin cfg0.N) : iblk m c 1 t = V m c main_v8 := by
  have e0 := index1 t
  funext j
  show V m c main_v8 (((cfg0.win 1).blk t).view.emb j) = V m c main_v8 j
  refine congrArg _ (funext fun a => Fin.ext ?_)
  match a with
  | ⟨0, _⟩ => show win0_1.index t (0 : Fin 1) * 5 + 1 * (j 0).val = (j 0).val; omega

/-- The table of times is staged whole. -/
theorem iblk2_eq (c : Dev nD) (t : Fin cfg0.N) : iblk m c 2 t = V m c main_v1 := by
  obtain ⟨e0, e1⟩ := index2 t
  funext j
  show V m c main_v1 (((cfg0.win 2).blk t).view.emb j) = V m c main_v1 j
  refine congrArg _ (funext fun a => Fin.ext ?_)
  match a with
  | ⟨0, _⟩ => show win0_2.index t (0 : Fin 2) * 1024 + 1 * (j 0).val = (j 0).val; omega
  | ⟨1, _⟩ => show win0_2.index t (1 : Fin 2) * 128 + 1 * (j 1).val = (j 1).val; omega

/-- The table of inputs is staged whole. -/
theorem iblk3_eq (c : Dev nD) (t : Fin cfg0.N) : iblk m c 3 t = V m c main_v2 := by
  obtain ⟨e0, e1⟩ := index3 t
  funext j
  show V m c main_v2 (((cfg0.win 3).blk t).view.emb j) = V m c main_v2 j
  refine congrArg _ (funext fun a => Fin.ext ?_)
  match a with
  | ⟨0, _⟩ => show win0_3.index t (0 : Fin 2) * 1024 + 1 * (j 0).val = (j 0).val; omega
  | ⟨1, _⟩ => show win0_3.index t (1 : Fin 2) * 128 + 1 * (j 1).val = (j 1).val; omega

/-- Row `r` of the `q`-th block of 1024 rows, of the 8192. -/
def row (q : Fin 8) (r : Fin 1024) : Fin 8192 := ⟨q.val * 1024 + r.val, by omega⟩

/-- The index of an array of 8192 rows at row `p` and lane `l`. -/
def at8192 (p : Fin 8192) (l : Fin 128) : S8192x128.Idx := fun a => match a with
  | ⟨0, _⟩ => p
  | ⟨1, _⟩ => l

/-- The `q`-th block of an array of 8192 rows. -/
def rowsOf (X : Vec F S8192x128 .f32) (q : Fin 8) : Vec F S1024x128 .f32 := fun j => X (at8192 (row q (j 0)) (j 1))

/-- The grid has eight points. -/
def blockNo (t : Fin cfg0.N) : Fin 8 := ⟨t.val, lt_of_lt_of_eq t.isLt (show cfg0.N = 8 from N_0)⟩

/-- Point `t` stages the `t`-th block of `x`. -/
theorem iblk4_eq (c : Dev nD) (t : Fin cfg0.N) : iblk m c 4 t = rowsOf (V m c main_v0) (blockNo t) := by
  obtain ⟨e0, e1⟩ := index4 t
  funext j
  show V m c main_v0 (((cfg0.win 4).blk t).view.emb j) = V m c main_v0 (at8192 (row (blockNo t) (j 0)) (j 1))
  refine congrArg _ (funext fun a => Fin.ext ?_)
  match a with
  | ⟨0, _⟩ => show win0_4.index t (0 : Fin 2) * 1024 + 1 * (j 0).val = t.val * 1024 + (j 0).val; omega
  | ⟨1, _⟩ => show win0_4.index t (1 : Fin 2) * 128 + 1 * (j 1).val = (j 1).val; omega

/-! ## What each point leaves -/

/-- The three coefficients of the arrays as the region finds them. -/
def coefsOf (c : Dev nD) : Vec F S3 .f32 := coefs (V m c main_arg0) (V m c main_v8) (V m c main_v1) (V m c main_v2)

/-- After every point the scratch holds the three coefficients. -/
theorem scratch_all (c : Dev nD) : ∀ (n : ℕ) (hn : n < cfg0.N), (outsAt0 m c n hn).2 = coefsOf m c
  | 0, hn => by
    have h : outsAt0 m c 0 hn = _ := outsAt0_A m c ⟨0, hn⟩ (Nat.zero_mod 8)
    rw [h]
    dsimp only
    refine (scratch_A (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _)
      ((hcond0_0 ⟨0, hn⟩).mpr (Nat.zero_mod 8)) (iblk m c 0 ⟨0, hn⟩) (iblk m c 1 ⟨0, hn⟩) (iblk m c 2 ⟨0, hn⟩) (iblk m c 3 ⟨0, hn⟩) (iblk m c 4 ⟨0, hn⟩)).trans ?_
    rw [iblk0_eq, iblk1_eq, iblk2_eq, iblk3_eq]
    rfl
  | n + 1, hn => by
    have hN : n + 1 < 8 := lt_of_lt_of_eq hn (show cfg0.N = 8 from N_0)
    have h : outsAt0 m c (n + 1) hn = _ := outsAt0_B m c ⟨n + 1, hn⟩ (by show ¬ (n + 1) % 8 = 0; omega)
    rw [h]
    exact scratch_all c n (Nat.lt_of_succ_lt hn)

/-- Every point stores the block of the coefficients and of its block of `x`. -/
theorem stored_all (c : Dev nD) (t : Fin cfg0.N) :
    (outsAt0 m c t.val t.isLt).1 = block (coefsOf m c) (rowsOf (V m c main_v0) (blockNo t)) := by
  by_cases h0 : t.val % 8 = 0
  · rw [outsAt0_A m c t h0]
    dsimp only
    refine (out_A (F := F) c (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _)
      ((hcond0_0 t).mpr h0) (iblk m c 0 t) (iblk m c 1 t) (iblk m c 2 t) (iblk m c 3 t) (iblk m c 4 t)).trans ?_
    rw [iblk0_eq, iblk1_eq, iblk2_eq, iblk3_eq, iblk4_eq]
    rfl
  · rw [outsAt0_B m c t h0]
    dsimp only
    refine (out_B (F := F) c (grid0.coords t) (ms0_0 t) (hs0_0 t) (ms0_1 t) (hs0_1 t) (ms0_2 t) (hs0_2 t)
      (ms0_3 t) (hs0_3 t) (ms0_4 t) (hs0_4 t) (ms0_5 t) (hs0_5 t) scM0_0 (Memref.isWhole_whole _)
      (fun h => h0 ((hcond0_0 t).mp h)) (iblk m c 0 t) (iblk m c 1 t) (iblk m c 2 t) (iblk m c 3 t) (iblk m c 4 t) _).trans ?_
    rw [iblk4_eq, scratch_all]

/-! ## The region's output -/

/-- The block that holds row `p`. -/
def blockOf (p : Fin 8192) : Fin 8 := ⟨p.val / 1024, by omega⟩
/-- The place of a row and a lane of the whole array inside its block. -/
def placeOf (i : S8192x128.Idx) : S1024x128.Idx := fun a => match a with
  | ⟨0, _⟩ => (⟨(i 0).val % 1024, Nat.mod_lt _ (by decide)⟩ : Fin 1024)
  | ⟨1, _⟩ => (i 1 : Fin 128)

/-- THE REGION'S OUTPUT: at each index the value of the stored block that holds it. -/
def output (c : Dev nD) : Vec F S8192x128 .f32 := fun i =>
  block (coefsOf m c) (rowsOf (V m c main_v0) (blockOf (i 0))) (placeOf i)

/-- What point `t` writes back is its block of `output`. -/
theorem flushed_eq (c : Dev nD) (t : Fin cfg0.N) :
    (dats m 0 c).flushed 5 t = ((cfg0.win 5).blk t).view.read (Elt F) (output m c) := by
  show (cfg0.win 5).cut (grid0.coords t) ((dats m 0 c).after 5 t) = _
  rw [after0_5, stored_all]
  obtain ⟨e0, e1⟩ := index5 t
  have hN : t.val < 8 := lt_of_lt_of_eq t.isLt (show cfg0.N = 8 from N_0)
  funext y
  have hy0 : (y 0).val < 1024 := (y 0).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 128 + 1 * (y 1).val := rfl
  have hq : blockOf (((cfg0.win 5).blk t).view.emb y 0) = blockNo t :=
    Fin.ext (by show (((cfg0.win 5).blk t).view.emb y 0).val / 1024 = t.val; rw [hb0]; omega)
  have hl : placeOf (((cfg0.win 5).blk t).view.emb y) = (cfg0.win 5).xinj (grid0.coords t) y := by
    funext a; apply Fin.ext
    match a with
    | ⟨0, _⟩ => show (((cfg0.win 5).blk t).view.emb y 0).val % 1024 = (y 0).val; rw [hb0]; omega
    | ⟨1, _⟩ => show (((cfg0.win 5).blk t).view.emb y 1).val = (y 1).val; rw [hb1]; omega
  show block (coefsOf m c) (rowsOf (V m c main_v0) (blockNo t)) ((cfg0.win 5).xinj (grid0.coords t) y)
    = output m c (((cfg0.win 5).blk t).view.emb y)
  unfold output
  rw [hq, hl]

/-- An index is in point `t`'s block when each coordinate is in the block's range. -/
theorem mem_block (t : Fin cfg0.N) (i : S8192x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v9).slice (win0_5.rect t)).set ↔ _
  rw [View.set_slice_whole, Rect.mem_set_unit]
  exact Iff.rfl

/-- Every index is in some point's block. -/
theorem covered (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  refine ⟨⟨(i 0).val / 1024, lt_of_lt_of_eq (by omega) (show (8 : ℕ) = cfg0.N from N_0.symm)⟩, flush5 _, ?_⟩
  rw [mem_block]
  obtain ⟨e0, e1⟩ := index5 (⟨(i 0).val / 1024, lt_of_lt_of_eq (by omega) (show (8 : ℕ) = cfg0.N from N_0.symm)⟩ : Fin cfg0.N)
  intro a
  match a with
  | ⟨0, _⟩ =>
    show win0_5.index _ (0 : Fin 2) * 1024 ≤ (i 0).val ∧ (i 0).val < win0_5.index _ (0 : Fin 2) * 1024 + 1024
    rw [e0]; dsimp only; omega
  | ⟨1, _⟩ =>
    show win0_5.index _ (1 : Fin 2) * 128 ≤ (i 1).val ∧ (i 1).val < win0_5.index _ (1 : Fin 2) * 128 + 128
    rw [e1]; omega

/-- The region leaves `output` in its output array. -/
theorem final (c : Dev nD) : (dats m 0 c).arrAt 5 cfg0.N = output m c :=
  (dats m 0 c).arrAt_eq_of_cover 5 _ (fun t _ => flushed_eq m c t) covered

/-! ## The program's result, and the arrays the region reads -/

/-- The result of the program: the region's output reshaped. -/
theorem result_eq (c : Dev nD) :
    Pipeline.afterTail₀ cfgs (dats m) 0 (V0 m) [hostOps1] c main_v10
      = shapeCast S524288x2 (output m c) shapeCasts_S8192x128_S524288x2 := by
  unfold Pipeline.afterTail₀
  rw [show ([hostOps1] : List (List (HloOp τ sig (Elt F)))).flatten = hostOps1 from rfl]
  have h : Pipeline.withArrays (cfgs 0).spec c (V0 m c) (fun w => (dats m 0 c).arrAt w (cfgs 0).N) (Proc.devRef .tc main_v9)
      = output m c :=
    (Pipeline.withArrays_arr (cfgs 0).spec winFacts0.arr_inj c (V0 m c) (fun w => (dats m 0 c).arrAt w (cfgs 0).N) 5).trans (final m c)
  after_results
  rw [h]
  rfl

/-- `x` laid out in rows of 128. -/
theorem arr_x (c : Dev nD) : V m c main_v0 = shapeCast S8192x128 (m ((c : Thread nD τ).loc main_arg1)) shapeCasts_S524288x2_S8192x128 := by
  show StableHlo.after hostOps0 (fun b => m (c, b)) (Proc.devRef .tc main_v0) = _
  after_results
  rfl

/-- The times laid out in rows of 128. -/
theorem arr_ts (c : Dev nD) : V m c main_v1 = shapeCast S1024x128 (m ((c : Thread nD τ).loc main_arg2)) shapeCasts_S131072_S1024x128 := by
  show StableHlo.after hostOps0 (fun b => m (c, b)) (Proc.devRef .tc main_v1) = _
  after_results
  rfl

/-- The inputs laid out in rows of 128. -/
theorem arr_us (c : Dev nD) : V m c main_v2 = shapeCast S1024x128 (m ((c : Thread nD τ).loc main_arg3)) shapeCasts_S131072x1_S1024x128 := by
  show StableHlo.after hostOps0 (fun b => m (c, b)) (Proc.devRef .tc main_v2) = _
  after_results
  rfl

/-- The five scalars joined into one array. -/
theorem arr_params (c : Dev nD) : V m c main_v8 = concatenate S5 0
    [⟨S1, broadcastInDim S1 ![] bcast_S_S1 (m ((c : Thread nD τ).loc main_arg4))⟩,
     ⟨S1, broadcastInDim S1 ![] bcast_S_S1 (m ((c : Thread nD τ).loc main_arg5))⟩,
     ⟨S1, broadcastInDim S1 ![] bcast_S_S1 (m ((c : Thread nD τ).loc main_arg6))⟩,
     ⟨S1, broadcastInDim S1 ![] bcast_S_S1 (m ((c : Thread nD τ).loc main_arg7))⟩,
     ⟨S1, broadcastInDim S1 ![] bcast_S_S1 (m ((c : Thread nD τ).loc main_arg8))⟩]
    concatenates_S1_S1_S1_S1_S1_S5_d0 := by
  show StableHlo.after hostOps0 (fun b => m (c, b)) (Proc.devRef .tc main_v8) = _
  after_results
  rfl

end Cert.Proof.Array

end
-- ==== Proof.BlockAt.lean ====
/- Hand-written: ONE STORED BLOCK, ENTRY BY ENTRY. The rows of the block hold pairs: an even lane the first number of a pair,
   the odd lane after it the second. The block keeps, at an even lane, the entry on its right (`block_even`); at an odd lane
   it is the first coefficient less the second times the entry less the third times the entry on its left (`block_odd`). -/
module

public import proofs.«01_k».proof.Proof.Array

@[expose] public section

noncomputable section

namespace Cert.Proof.BlockAt

open Cert.KernelIdeal Cert.KernelIdeal.Gen Cert.Proof.Body Idealize.ShloMosaic

/-- The index of a block at row `r` and lane `l`. -/
def at1024 (r : Fin 1024) (l : Fin 128) : S1024x128.Idx := fun a => match a with
  | ⟨0, _⟩ => r
  | ⟨1, _⟩ => l

/-- The bit by which the kernel selects: whether the lane's remainder modulo 2, made nonnegative, is 0. -/
def evenBit (l : BitVec 32) : BitVec 1 :=
  let two : BitVec 32 := Scalar.select (Scalar.cmpi .eq 2#32 0#32) 1#32 2#32
  let rem : BitVec 32 := IntOp.remsi .vector l two
  IntOp.cmpi .eq
    (Scalar.select (IntOp.andi (IntOp.xori (IntOp.cmpi .slt rem 0#32) (Scalar.cmpi .slt two 0#32)) (IntOp.cmpi .ne rem 0#32))
      (IntOp.addi rem two) rem) 0#32

/-- It is set at the even lanes. -/
theorem evenBit_eq : ∀ l : Fin 128, evenBit (BitVec.ofNat 32 l.val) = if l.val % 2 = 0 then 1#1 else 0#1 := by
  decide +kernel

variable {F : FTy → Type} [FloatOps F]

/-- The block rotated by one lane to the left: each lane sees its right neighbour. -/
def fromRight (x : Vec F S1024x128 .f32) : Vec F S1024x128 .f32 :=
  concatenate S1024x128 1 [⟨S1024x127, extractStridedSlice S1024x127 ![0, 1] x slices_S1024x128_o0_1_S1024x127⟩,
    ⟨S1024x1, extractStridedSlice S1024x1 ![0, 0] x slices_S1024x128_o0_0_S1024x1⟩] concatenates_S1024x127_S1024x1_S1024x128_d1

/-- The block rotated by one lane to the right: each lane sees its left neighbour. -/
def fromLeft (x : Vec F S1024x128 .f32) : Vec F S1024x128 .f32 :=
  concatenate S1024x128 1 [⟨S1024x1, extractStridedSlice S1024x1 ![0, 127] x slices_S1024x128_o0_127_S1024x1⟩,
    ⟨S1024x127, extractStridedSlice S1024x127 ![0, 0] x slices_S1024x128_o0_0_S1024x127⟩] concatenates_S1024x1_S1024x127_S1024x128_d1

/-- The index of a block of 127 lanes at row `r` and lane `l`. -/
def at127 (r : Fin 1024) (l : Fin 127) : S1024x127.Idx := fun a => match a with
  | ⟨0, _⟩ => r
  | ⟨1, _⟩ => l

/-- A roll by one to the left holds at a lane what stood at the next one. -/
theorem fromRight_apply (x : Vec F S1024x128 .f32) (r : Fin 1024) (l l' : Fin 128) (hl : l'.val = l.val + 1) :
    fromRight x (at1024 r l) = x (at1024 r l') := by
  have hlt : l.val < 127 := by have := l'.isLt; omega
  refine (concatenate_pair_apply_left (t := S1024x128) (s₁ := S1024x127) (s₂ := S1024x1) 1 _ _ _ (at1024 r l) rfl (at127 r ⟨l.val, hlt⟩)
    (fun b => match b with | ⟨0, _⟩ => rfl | ⟨1, _⟩ => rfl)).trans ?_
  refine extractStridedSlice_apply _ _ _ _ _ fun a => ?_
  match a with
  | ⟨0, _⟩ => show r.val = 0 + r.val; omega
  | ⟨1, _⟩ => show l'.val = 1 + l.val; omega

/-- A roll by one to the right holds at a lane what stood at the one before. -/
theorem fromLeft_apply (x : Vec F S1024x128 .f32) (r : Fin 1024) (l l' : Fin 128) (hl : l'.val + 1 = l.val) :
    fromLeft x (at1024 r l) = x (at1024 r l') := by
  have hlt : l'.val < 127 := by have := l.isLt; omega
  refine (concatenate_pair_apply_right (t := S1024x128) (s₁ := S1024x1) (s₂ := S1024x127) 1 _ _ _ (at1024 r l) rfl rfl (at127 r ⟨l'.val, hlt⟩)
    (fun b hb => match b, hb with | ⟨0, _⟩, _ => rfl | ⟨1, _⟩, hb => absurd rfl hb) (by show l'.val + 1 = l.val; exact hl)).trans ?_
  refine extractStridedSlice_apply _ _ _ _ _ fun a => ?_
  match a with
  | ⟨0, _⟩ => show r.val = 0 + r.val; omega
  | ⟨1, _⟩ => show l'.val = 0 + l'.val; omega

/-- The lane numbers. -/
theorem lanes_eq : iota .tc S1024x128 32 [1] iota_S1024x128_d1_w32 = fun i => BitVec.ofNat 32 (i 1).val :=
  funext fun i => iota_single_apply .tc S1024x128 32 1 iota_S1024x128_d1_w32 i

/-- The stored block is a selection between the rotated block and the affine part, by the lane's bit. -/
theorem block_select (s : Vec F S3 .f32) (x : Vec F S1024x128 .f32) (r : Fin 1024) (l : Fin 128) :
    block s x (at1024 r l) = Scalar.select (evenBit (BitVec.ofNat 32 l.val)) (fromRight x (at1024 r l))
      (FloatOps.subf (FloatOps.subf (s (word3 0)) (FloatOps.mulf (s (word3 1)) (x (at1024 r l))))
        (FloatOps.mulf (s (word3 2)) (fromLeft x (at1024 r l)))) := by
  unfold block k0_pay16
  rw [shapeCast_self]
  rw [lanes_eq]
  rfl

/-- At an even lane the stored block holds the entry on the right. -/
theorem block_even (s : Vec F S3 .f32) (x : Vec F S1024x128 .f32) (r : Fin 1024) (l l' : Fin 128) (h : l.val % 2 = 0)
    (hl : l'.val = l.val + 1) : block s x (at1024 r l) = x (at1024 r l') := by
  rw [block_select, evenBit_eq, if_pos h, fromRight_apply x r l l' hl]
  exact if_pos rfl

/-- At an odd lane the stored block holds the affine part, of the entry and of the entry on the left. -/
theorem block_odd (s : Vec F S3 .f32) (x : Vec F S1024x128 .f32) (r : Fin 1024) (l l' : Fin 128) (h : l.val % 2 = 1)
    (hl : l'.val + 1 = l.val) : block s x (at1024 r l)
      = FloatOps.subf (FloatOps.subf (s (word3 0)) (FloatOps.mulf (s (word3 1)) (x (at1024 r l)))) (FloatOps.mulf (s (word3 2)) (x (at1024 r l'))) := by
  rw [block_select, evenBit_eq, if_neg (by omega), fromLeft_apply x r l l' hl]
  exact if_neg (by decide)

end Cert.Proof.BlockAt

end
-- ==== Proof.Lookup.lean ====
/- Hand-written: THE TWO TABLE ENTRIES THE KERNEL PICKS. Of a table of 131072 times, `below` counts those that are at most the
   time; the kernel's sum of comparisons is that count (`count_eq`), clipped to 1 … 131071 it is `place` (`position_eq`), and
   each masked sum has one term that may differ from zero: the table's entry at `place`, or at the one before it
   (`t1_eq` to `u2_eq`). -/
module

public import proofs.«01_k».proof.Proof.BlockAt
public import Idealize.ShloMosaic.PureOps.Ideal.Laws
public import Idealize.ShloMosaic.Lib.IndicatorCount
public import Idealize.ShloMosaic.Lib.ValueIdxCore

@[expose] public section

noncomputable section

open scoped BigOperators

namespace Cert.Proof.Lookup

open Cert.KernelIdeal Cert.KernelIdeal.Gen Cert.Proof.Body Cert.Proof.BlockAt Idealize.ShloMosaic Idealize.ShloMosaic.ValueIdx

/-! ## Positions -/

/-- How many of the times are at most `t`. -/
def below (ts : Fin 131072 → Ideal .f32) (t : Ideal .f32) : ℕ :=
  (Finset.univ.filter fun k => FloatOps.cmpf .ole (ts k) t = 1#1).card

/-- A count of the times is at most their number. -/
theorem below_le (ts : Fin 131072 → Ideal .f32) (t : Ideal .f32) : below ts t ≤ 131072 :=
  (Finset.card_le_univ _).trans (by rw [Fintype.card_fin])

/-- A count as a word, clipped to 1 … 131071. -/
def position (w : BitVec 32) : BitVec 32 := IntOp.minsi 131071#32 (IntOp.maxsi 1#32 w)

/-- A count clipped to 1 … 131071: the entry picked. -/
def place (n : ℕ) : Fin 131072 := ⟨min 131071 (max 1 n), by omega⟩

/-- The entry before it. -/
def before (n : ℕ) : Fin 131072 := ⟨(place n).val - 1, by have := (place n).isLt; omega⟩

/-- A count read as a signed word is itself. -/
theorem toInt_small (n : ℕ) (hn : n ≤ 131072) : (BitVec.ofNat 32 n).toInt = n := by
  rw [BitVec.toInt_eq_toNat_of_lt (by simp only [BitVec.toNat_ofNat]; omega)]
  simp only [BitVec.toNat_ofNat]
  omega

/-- The larger of two counts, as words. -/
theorem maxsi_small (a n : ℕ) (ha : a ≤ 131072) (hn : n ≤ 131072) :
    IntOp.maxsi (BitVec.ofNat 32 a) (BitVec.ofNat 32 n) = BitVec.ofNat 32 (max a n) := by
  unfold IntOp.maxsi
  rw [BitVec.slt_eq_decide, toInt_small n hn, toInt_small a ha]
  by_cases h : n < a
  · rw [if_pos (by simpa using h), max_eq_left (by omega)]
  · rw [if_neg (by simpa using h), max_eq_right (by omega)]

/-- The smaller of two counts, as words. -/
theorem minsi_small (a n : ℕ) (ha : a ≤ 131072) (hn : n ≤ 131072) :
    IntOp.minsi (BitVec.ofNat 32 a) (BitVec.ofNat 32 n) = BitVec.ofNat 32 (min a n) := by
  unfold IntOp.minsi
  rw [BitVec.slt_eq_decide, toInt_small n hn, toInt_small a ha]
  by_cases h : a < n
  · rw [if_pos (by simpa using h), min_eq_left (by omega)]
  · rw [if_neg (by simpa using h), min_eq_right (by omega)]

/-- The clipped word is the clipped count. -/
theorem position_eq (n : ℕ) (hn : n ≤ 131072) : position (BitVec.ofNat 32 n) = BitVec.ofNat 32 (place n).val := by
  unfold position
  rw [maxsi_small 1 n (by omega) hn, minsi_small 131071 (max 1 n) (by omega) (by omega)]
  rfl

/-- The clipped word less one is the position before. -/
theorem position_sub_one (n : ℕ) (hn : n ≤ 131072) :
    IntOp.subi (position (BitVec.ofNat 32 n)) 1#32 = BitVec.ofNat 32 (before n).val := by
  rw [position_eq n hn]
  have h1 : 1 ≤ (place n).val := by show 1 ≤ min 131071 (max 1 n); omega
  show BitVec.ofNat 32 (place n).val - 1#32 = BitVec.ofNat 32 ((place n).val - 1)
  have := (place n).isLt
  apply BitVec.eq_of_toNat_eq
  simp only [BitVec.toNat_sub, BitVec.toNat_ofNat]
  omega

/-! ## The table as rows of 128 -/

/-- Where the `k`-th entry of a table lies among its 1024 rows. -/
def cell (k : Fin 131072) : S1024x128.Idx := at1024 ⟨k.val / 128, by omega⟩ ⟨k.val % 128, Nat.mod_lt _ (by decide)⟩

/-- Which entry lies at an index. -/
def entry (j : S1024x128.Idx) : Fin 131072 :=
  ⟨(j 0).val * 128 + (j 1).val, by
    have h0 : (j 0).val < 1024 := (j 0).isLt
    have h1 : (j 1).val < 128 := (j 1).isLt
    omega⟩

/-- The entry at the `k`-th cell is the `k`-th. -/
theorem entry_cell (k : Fin 131072) : entry (cell k) = k :=
  Fin.ext (by show k.val / 128 * 128 + k.val % 128 = k.val; omega)

/-- The cell of the entry at an index is that index. -/
theorem cell_entry (j : S1024x128.Idx) : cell (entry j) = j := by
  have h1 : (j 1).val < 128 := (j 1).isLt
  funext a
  apply Fin.ext
  match a with
  | ⟨0, _⟩ => show ((j 0).val * 128 + (j 1).val) / 128 = (j 0).val; omega
  | ⟨1, _⟩ => show ((j 0).val * 128 + (j 1).val) % 128 = (j 1).val; omega

/-- The entries and the cells correspond. -/
def cells : Fin 131072 ≃ S1024x128.Idx where
  toFun := cell
  invFun := entry
  left_inv := entry_cell
  right_inv := cell_entry

/-- A vector of 131072 entries laid out in rows holds its `k`-th entry at the `k`-th cell. -/
theorem rows_apply {α : Type} (v : S131072.Idx → α) (k : Fin 131072) :
    shapeCast S1024x128 v shapeCasts_S131072_S1024x128 (cell k) = v (ix1 k) := by
  refine shapeCast_apply v _ _ _ ?_
  refine (Shape.rowMajor_val_one (d := ![131072]) (ix1 k)).trans ((Shape.rowMajor_val_two (d := ![1024, 128]) (cell k)).trans ?_).symm
  show k.val / 128 * 128 + k.val % 128 = k.val
  omega

/-- So does a column of them. -/
theorem column_apply {α : Type} (v : S131072x1.Idx → α) (k : Fin 131072) :
    shapeCast S1024x128 v shapeCasts_S131072x1_S1024x128 (cell k) = v (ix2 k (0 : Fin 1)) := by
  refine shapeCast_apply v _ _ _ ?_
  refine (Shape.rowMajor_val_two (d := ![131072, 1]) (ix2 k (0 : Fin 1))).trans ((Shape.rowMajor_val_two (d := ![1024, 128]) (cell k)).trans ?_).symm
  show k.val / 128 * 128 + k.val % 128 = k.val * 1 + 0
  omega

/-! ## The kernel's count -/

/-- The one index of a one-element vector and of the whole reduced tile. -/
theorem ones_eq {j j' : S1.Idx} : j = j' := funext fun b => Fin.ext (by
  match b with
  | ⟨0, _⟩ => have h := (j 0).isLt; have h' := (j' 0).isLt; show (j 0).val = (j' 0).val; exact (Nat.lt_one_iff.1 h).trans (Nat.lt_one_iff.1 h').symm)

/-- The kernel's sum of comparisons. -/
def count (t : Ideal .f32) (ts : Vec Ideal S1024x128 .f32) : BitVec 32 :=
  extractAt ![0, 0, 0] (shapeCast S1x1x1 (multiReductionI .add [1, 2] S1
    (shapeCast S1x1024x128 (extui 32 (cmpf .ole (k0_pay1 ts) (broadcast S1024x128 t)) natLt_1_32) shapeCasts_S1024x128_S1x1024x128)
    0#32 reduces_S1x1024x128_S1 rfl) shapeCasts_S1_S1x1x1) inpos_S1x1x1_p0_0_0

/-- Adding up the words of a mask over everything the sum collects into its one place counts the mask. -/
theorem total_eq (p : S1024x128.Idx → BitVec 1) (j : S1.Idx) :
    multiReductionI .add [1, 2] S1 (shapeCast S1x1024x128 (extui 32 p natLt_1_32) shapeCasts_S1024x128_S1x1024x128)
      0#32 reduces_S1x1024x128_S1 rfl j = BitVec.ofNat 32 (Finset.univ.filter fun k : Fin 131072 => p (cell k) = 1#1).card := by
  have e := multiReductionI_eq_fold .add (shapeCast S1x1024x128 (extui 32 p natLt_1_32) shapeCasts_S1024x128_S1x1024x128)
    0#32 reduces_S1x1024x128_S1 rfl j
  rw [Finset.filter_true_of_mem fun i _ => ones_eq] at e
  have f := IndicatorCount.fold_addi_setWidth_eq_card (w := 32)
    (fun i : S1x1024x128.Idx => p (Shape.reshapeEquiv shapeCasts_S1024x128_S1x1024x128 i)) Finset.univ
  refine e.trans (Eq.trans ?_ (f.trans (congrArg (BitVec.ofNat 32) ?_)))
  · rfl
  · refine Finset.card_equiv ((Shape.reshapeEquiv shapeCasts_S1024x128_S1x1024x128).trans cells.symm) fun i => ?_
    simp only [Finset.mem_filter, Finset.mem_univ, true_and]
    show _ ↔ p (cell (entry (Shape.reshapeEquiv shapeCasts_S1024x128_S1x1024x128 i))) = 1#1
    rw [cell_entry]

/-- The sum of the comparisons is the number of times at most `t`. -/
theorem count_eq (t : Ideal .f32) (ts : Vec Ideal S1024x128 .f32) :
    count t ts = BitVec.ofNat 32 (below (fun k => ts (cell k)) t) := by
  unfold count k0_pay1
  rw [shapeCast_self]
  unfold below
  exact total_eq (cmpf .ole ts (broadcast S1024x128 t))
    (Shape.reshapeEquiv shapeCasts_S1_S1x1x1 fun a => ⟨(![0, 0, 0] : Fin 3 → Nat) a, inpos_S1x1x1_p0_0_0 a⟩)

/-! ## The masked sums -/

/-- The kernel numbers the cells by their entries. -/
theorem number_eq (j : S1024x128.Idx) : k0_pay2 j = BitVec.ofNat 32 (entry j).val := by
  have h0 : iota .tc S1024x128 32 [0] iota_S1024x128_d0_w32 j = BitVec.ofNat 32 (j 0).val := iota_single_apply _ _ _ _ _ j
  have h1 : iota .tc S1024x128 32 [1] iota_S1024x128_d1_w32 j = BitVec.ofNat 32 (j 1).val := iota_single_apply _ _ _ _ _ j
  unfold k0_pay2
  show IntOp.addi (IntOp.muli (iota .tc S1024x128 32 [0] iota_S1024x128_d0_w32 j) 128#32) (iota .tc S1024x128 32 [1] iota_S1024x128_d1_w32 j) = _
  rw [h0, h1]
  show BitVec.ofNat 32 (j 0).val * BitVec.ofNat 32 128 + BitVec.ofNat 32 (j 1).val = _
  rw [← BitVec.ofNat_mul, ← BitVec.ofNat_add]
  rfl

/-- So comparing the numbers with entry `k` marks its cell alone. -/
theorem mask_iff (k : Fin 131072) (j : S1024x128.Idx) :
    cmpi .eq k0_pay2 (broadcast S1024x128 (BitVec.ofNat 32 k.val)) j = 1#1 ↔ j = cell k := by
  have e : cmpi .eq k0_pay2 (broadcast S1024x128 (BitVec.ofNat 32 k.val)) j = BitVec.ofBool (k0_pay2 j == BitVec.ofNat 32 k.val) := rfl
  rw [e, number_eq]
  constructor
  · intro h
    have g : BitVec.ofNat 32 (entry j).val = BitVec.ofNat 32 k.val := by
      by_contra hn
      rw [beq_eq_false_iff_ne.2 hn] at h
      exact absurd h (by decide)
    have g' := congrArg BitVec.toNat g
    simp only [BitVec.toNat_ofNat] at g'
    have e : entry j = k := Fin.ext (by have := (entry j).isLt; have := k.isLt; omega)
    rw [← e, cell_entry]
  · rintro rfl
    rw [entry_cell, beq_self_eq_true]
    rfl

/-- The first mask holds at the entry before the one picked and nowhere else. -/
theorem before_mask (t : Ideal .f32) (ts : Vec Ideal S1024x128 .f32) (j : S1024x128.Idx) :
    k0_pay3 (F := Ideal) t ts j = 1#1 ↔ j = cell (before (below (fun k => ts (cell k)) t)) := by
  rw [← mask_iff, ← position_sub_one _ (below_le _ _), ← count_eq]
  exact Iff.rfl

/-- The second mask holds at the entry picked and nowhere else. -/
theorem place_mask (t : Ideal .f32) (ts : Vec Ideal S1024x128 .f32) (j : S1024x128.Idx) :
    k0_pay4 (F := Ideal) t ts j = 1#1 ↔ j = cell (place (below (fun k => ts (cell k)) t)) := by
  rw [← mask_iff, ← position_eq _ (below_le _ _), ← count_eq]
  exact Iff.rfl

/-- A masked sum: the values a mask selects, zero elsewhere, added up. -/
def masked (b : IVec S1024x128 1) (x : Vec Ideal S1024x128 .f32) : Ideal .f32 :=
  extractAt ![0, 0, 0] (shapeCast S1x1x1 (multiReduction .add [1, 2] S1
    (shapeCast S1x1024x128 (select b x (k0_pay5 (F := Ideal))) shapeCasts_S1024x128_S1x1024x128)
    0x00000000#32 reduces_S1x1024x128_S1 (.inl rfl) rfl) shapeCasts_S1_S1x1x1) inpos_S1x1x1_p0_0_0

/-- The filler of the masked sums is zero. -/
theorem zero_eq (j : S1024x128.Idx) : (k0_pay5 (F := Ideal)) j = (0 : EReal) := by
  exact Ideal.ofBits_zero_f32

/-- Where the mask marks one cell, the masked sum is the value there. -/
theorem masked_eq (b : IVec S1024x128 1) (x : Vec Ideal S1024x128 .f32) (k : Fin 131072)
    (h : ∀ j, b j = 1#1 ↔ j = cell k) : masked b x = x (cell k) := by
  unfold masked extractAt
  refine (Ideal.multiReduction_add_total _ _ reduces_S1x1024x128_S1 (fun b => by match b with | ⟨0, _⟩ => rfl) _ _ _).trans ?_
  refine ((Shape.reshapeEquiv shapeCasts_S1024x128_S1x1024x128).sum_comp (fun j => select b x (k0_pay5 (F := Ideal)) j)).trans ?_
  refine (Finset.sum_eq_single (cell k) (fun j _ hj => ?_) (fun hj => absurd (Finset.mem_univ _) hj)).trans ?_
  · show (if b j = 1#1 then x j else (k0_pay5 (F := Ideal)) j) = (0 : EReal)
    rw [if_neg fun e => hj ((h j).1 e), zero_eq]
  · show (if b (cell k) = 1#1 then x (cell k) else (k0_pay5 (F := Ideal)) (cell k)) = x (cell k)
    rw [if_pos ((h _).2 rfl)]

/-- The first masked sum of the times is the time before the entry picked. -/
theorem t1_eq (t : Ideal .f32) (ts : Vec Ideal S1024x128 .f32) :
    k0_pay6 (F := Ideal) t ts = ts (cell (before (below (fun k => ts (cell k)) t))) := by
  have e := masked_eq (k0_pay3 (F := Ideal) t ts) ts (before (below (fun k => ts (cell k)) t)) (before_mask t ts)
  refine Eq.trans ?_ e
  unfold k0_pay6 k0_pay1
  rw [shapeCast_self]
  rfl

/-- The second is the time of the entry picked. -/
theorem t2_eq (t : Ideal .f32) (ts : Vec Ideal S1024x128 .f32) :
    k0_pay7 (F := Ideal) t ts = ts (cell (place (below (fun k => ts (cell k)) t))) := by
  have e := masked_eq (k0_pay4 (F := Ideal) t ts) ts (place (below (fun k => ts (cell k)) t)) (place_mask t ts)
  refine Eq.trans ?_ e
  unfold k0_pay7 k0_pay1
  rw [shapeCast_self]
  rfl

/-- The first masked sum of the inputs is the input before the entry picked. -/
theorem u1_eq (t : Ideal .f32) (ts us : Vec Ideal S1024x128 .f32) :
    k0_pay9 (F := Ideal) t ts us = us (cell (before (below (fun k => ts (cell k)) t))) := by
  have e := masked_eq (k0_pay3 (F := Ideal) t ts) us (before (below (fun k => ts (cell k)) t)) (before_mask t ts)
  refine Eq.trans ?_ e
  unfold k0_pay9 k0_pay8
  rw [shapeCast_self]
  rfl

/-- The second is the input of the entry picked. -/
theorem u2_eq (t : Ideal .f32) (ts us : Vec Ideal S1024x128 .f32) :
    k0_pay10 (F := Ideal) t ts us = us (cell (place (below (fun k => ts (cell k)) t))) := by
  have e := masked_eq (k0_pay4 (F := Ideal) t ts) us (place (below (fun k => ts (cell k)) t)) (place_mask t ts)
  refine Eq.trans ?_ e
  unfold k0_pay10 k0_pay8
  rw [shapeCast_self]
  rfl

end Cert.Proof.Lookup

end
-- ==== Proof.Equation.lean ====
/- Hand-written: THE EQUATION. The reference divides one sum by `J`; the kernel divides each of its parts and adds the
   quotients. Over the extended reals the two agree once `J` is not zero, `K` is not infinite and the offset is
   finite (`rate_eq`): division by `J` is then multiplication by a number that is neither negative nor infinite, and such a
   number distributes. -/
module

public import Idealize.ShloMosaic.PureOps.Ideal.Laws

@[expose] public section

noncomputable section

namespace Cert.Proof.Equation

open Idealize.ShloMosaic

/-- The forcing term between two entries `(t1, u1)` and `(t2, u2)` of the table, at the time `t`; a step shorter than
    a millionth counts as one. -/
def forcing (t t1 t2 u1 u2 : Ideal .f32) : Ideal .f32 :=
  FloatOps.addf u1 (FloatOps.mulf (FloatOps.hostDivf (FloatOps.subf t t1)
    (if FloatOps.cmpf .olt (FloatOps.subf t2 t1) (FloatOps.ofBits .f32 0x358637BD#32) = 1#1
      then FloatOps.ofBits .f32 0x3F800000#32 else FloatOps.subf t2 t1)) (FloatOps.subf u2 u1))

/-- The second column as the reference computes it. -/
def rate (u lJ lR lK δ lT x0 x1 : EReal) : EReal :=
  Ideal.div ((Ideal.exp lT * u - Ideal.exp lR * x1) - Ideal.exp lK * (x0 + δ)) (Ideal.exp lJ)

/-- The second column as the kernel computes it. -/
def parts (u lJ lR lK δ lT x0 x1 : EReal) : EReal :=
  (Ideal.div (Ideal.exp lT * u - Ideal.exp lK * δ) (Ideal.exp lJ) - Ideal.div (Ideal.exp lR) (Ideal.exp lJ) * x1)
    - Ideal.div (Ideal.exp lK) (Ideal.exp lJ) * x0

/-- An exponential is not negative. -/
theorem exp_nonneg (x : EReal) : 0 ≤ Ideal.exp x := by
  induction x with
  | bot => exact le_refl _
  | top => exact le_top
  | coe r => exact EReal.coe_nonneg.2 (Real.exp_pos r).le

/-- It is zero only at minus infinity. -/
theorem exp_ne_zero {x : EReal} (h : x ≠ ⊥) : Ideal.exp x ≠ 0 := by
  induction x with
  | bot => exact absurd rfl h
  | top => exact EReal.top_ne_zero
  | coe r => exact (EReal.coe_pos.2 (Real.exp_pos r)).ne'

/-- It is infinite only at infinity. -/
theorem exp_ne_top {x : EReal} (h : x ≠ ⊤) : Ideal.exp x ≠ ⊤ := by
  induction x with
  | bot => exact EReal.zero_ne_top
  | top => exact absurd rfl h
  | coe r => exact EReal.coe_ne_top _

/-- The reciprocal of an exponential, away from minus infinity, is neither negative nor infinite. -/
theorem inv_exp {x : EReal} (h : x ≠ ⊥) : 0 ≤ (Ideal.exp x)⁻¹ ∧ (Ideal.exp x)⁻¹ ≠ ⊤ := by
  refine ⟨EReal.inv_nonneg_of_nonneg (exp_nonneg x), ?_⟩
  induction x with
  | bot => exact absurd rfl h
  | top => show (⊤ : EReal)⁻¹ ≠ ⊤; rw [EReal.inv_top]; exact EReal.zero_ne_top
  | coe r => show ((Real.exp r : ℝ) : EReal)⁻¹ ≠ ⊤; rw [← EReal.coe_inv]; exact EReal.coe_ne_top _

/-- A factor that is neither negative nor infinite distributes over a difference. -/
theorem sub_mul_of {i : EReal} (h0 : 0 ≤ i) (h1 : i ≠ ⊤) (a b : EReal) : (a - b) * i = a * i - b * i := by
  rw [sub_eq_add_neg, sub_eq_add_neg, mul_comm, EReal.left_distrib_of_nonneg_of_ne_top h0 h1, mul_comm i a, mul_comm i (-b),
    EReal.neg_mul]

/-- Subtracting a sum, one term of which is finite, subtracts the terms. -/
theorem sub_add_of {p q : EReal} (h0 : q ≠ ⊥) (h1 : q ≠ ⊤) (a : EReal) : a - (p + q) = a - q - p := by
  rw [sub_eq_add_neg, EReal.neg_add (.inr h1) (.inr h0), sub_eq_add_neg, sub_eq_add_neg, sub_eq_add_neg, add_comm (-p), add_assoc]

/-- The product of two finite values is finite. -/
theorem mul_finite {a b : EReal} (ha0 : a ≠ ⊥) (ha1 : a ≠ ⊤) (hb0 : b ≠ ⊥) (hb1 : b ≠ ⊤) : a * b ≠ ⊥ ∧ a * b ≠ ⊤ := by
  lift a to ℝ using ⟨ha1, ha0⟩
  lift b to ℝ using ⟨hb1, hb0⟩
  rw [← EReal.coe_mul]
  exact ⟨EReal.coe_ne_bot _, EReal.coe_ne_top _⟩

/-- Dividing the sum is dividing the parts. -/
theorem rate_eq (u lJ lR lK δ lT x0 x1 : EReal) (hJ : lJ ≠ ⊥) (hK : lK ≠ ⊤) (hδ0 : δ ≠ ⊥) (hδ1 : δ ≠ ⊤) :
    parts u lJ lR lK δ lT x0 x1 = rate u lJ lR lK δ lT x0 x1 := by
  obtain ⟨i0, i1⟩ := inv_exp hJ
  have K0 := exp_nonneg lK
  have K1 := exp_ne_top hK
  have Kb : Ideal.exp lK ≠ ⊥ := fun e => absurd K0 (by rw [e]; exact not_le.2 EReal.bot_lt_zero)
  have f := mul_finite Kb K1 hδ0 hδ1
  unfold parts rate Ideal.div
  simp only [if_neg (exp_ne_zero hJ)]
  rw [EReal.left_distrib_of_nonneg_of_ne_top K0 K1, sub_add_of f.1 f.2, sub_mul_of i0 i1, sub_mul_of i0 i1, sub_mul_of i0 i1,
    sub_mul_of i0 i1]
  simp only [sub_eq_add_neg]
  rw [mul_right_comm (Ideal.exp lR), mul_right_comm (Ideal.exp lK) _ x0]
  simp only [add_assoc, add_comm, add_left_comm]

end Cert.Proof.Equation

end
-- ==== Proof.KernelValue.lean ====
/- Hand-written: WHAT THE KERNEL LEAVES IN ITS RESULT, entry by entry, over the extended reals. The result has two columns; an
   entry's place in the rows of 128 lanes keeps its column as the parity of the lane. The first column is the second column
   of `x` (`col0`), the second is `parts` of the forcing term at the two picked entries of the table (`col1`). -/
module

public import proofs.«01_k».proof.Proof.Lookup
public import proofs.«01_k».proof.Proof.Equation

@[expose] public section

noncomputable section

namespace Cert.Proof.KernelValue

open Cert.KernelIdeal Cert.KernelIdeal.Gen Cert.Proof.Body Cert.Proof.Array Cert.Proof.BlockAt Cert.Proof.Lookup
open Cert.Proof.Equation Idealize.ShloMosaic Idealize.ShloMosaic.TcCoe Idealize.ShloMosaic.ValueIdx

variable (m : (ℓ : Loc nD τ sig) → Buf (Elt Ideal) ℓ)

/-! ## The arguments -/

/-- The time. -/
def argT (c : Dev nD) : Vec Ideal S1 .f32 := m ((c : Thread nD τ).loc main_arg0)
/-- The angles and velocities. -/
def argX (c : Dev nD) : Vec Ideal S524288x2 .f32 := m ((c : Thread nD τ).loc main_arg1)
/-- The times of the series. -/
def argTs (c : Dev nD) : Vec Ideal S131072 .f32 := m ((c : Thread nD τ).loc main_arg2)
/-- The inputs of the series. -/
def argUs (c : Dev nD) : Vec Ideal S131072x1 .f32 := m ((c : Thread nD τ).loc main_arg3)
/-- The logarithm of `J`. -/
def argJ (c : Dev nD) : Vec Ideal S_ .f32 := m ((c : Thread nD τ).loc main_arg4)
/-- The logarithm of `R`. -/
def argR (c : Dev nD) : Vec Ideal S_ .f32 := m ((c : Thread nD τ).loc main_arg5)
/-- The logarithm of `K`. -/
def argK (c : Dev nD) : Vec Ideal S_ .f32 := m ((c : Thread nD τ).loc main_arg6)
/-- The offset. -/
def argD (c : Dev nD) : Vec Ideal S_ .f32 := m ((c : Thread nD τ).loc main_arg7)
/-- The logarithm of `Tau`. -/
def argTau (c : Dev nD) : Vec Ideal S_ .f32 := m ((c : Thread nD τ).loc main_arg8)

/-- The one place of a scalar. -/
def only : S_.Idx := fun a => a.elim0

/-! ## The forcing term and the second column, of the arguments -/

/-- The forcing term at the entries the time picks. -/
def forced (t : Ideal .f32) (ts us : Fin 131072 → Ideal .f32) : Ideal .f32 :=
  forcing t (ts (before (below ts t))) (ts (place (below ts t))) (us (before (below ts t))) (us (place (below ts t)))

/-! ## The five parameters -/

/-- A scalar broadcast to one word. -/
theorem word_apply (x : Vec Ideal S_ .f32) : broadcastInDim S1 ![] bcast_S_S1 x word1 = x only :=
  congrArg x (funext fun a => a.elim0)

/-- Off the joined axis a one-word piece has no coordinate. -/
theorem off_axis (k : Fin 5) (b : Fin S1.rank) (hb : b.cast (rfl : S1.rank = S5.rank) ≠ 0) :
    (word1 b).val = (word5 k (b.cast (rfl : S1.rank = S5.rank))).val :=
  absurd (Subsingleton.elim (α := Fin 1) _ _) hb

/-- Parameter 0 is the logarithm of `J`. -/
theorem param_J (c : Dev nD) : V m c main_v8 (word5 0) = argJ m c only := by
  rw [arr_params]
  exact (concatenate_apply_piece (t := S5) 0 _ _ (word5 0) 0 (by show 0 < 5; omega) S1
    (broadcastInDim S1 ![] bcast_S_S1 (argJ m c)) rfl rfl 0 rfl word1 (off_axis 0) rfl).trans (word_apply _)

/-- Parameter 1 is the logarithm of `R`. -/
theorem param_R (c : Dev nD) : V m c main_v8 (word5 1) = argR m c only := by
  rw [arr_params]
  exact (concatenate_apply_piece (t := S5) 0 _ _ (word5 1) 1 (by show 1 < 5; omega) S1
    (broadcastInDim S1 ![] bcast_S_S1 (argR m c)) rfl rfl 1 rfl word1 (off_axis 1) rfl).trans (word_apply _)

/-- Parameter 2 is the logarithm of `K`. -/
theorem param_K (c : Dev nD) : V m c main_v8 (word5 2) = argK m c only := by
  rw [arr_params]
  exact (concatenate_apply_piece (t := S5) 0 _ _ (word5 2) 2 (by show 2 < 5; omega) S1
    (broadcastInDim S1 ![] bcast_S_S1 (argK m c)) rfl rfl 2 rfl word1 (off_axis 2) rfl).trans (word_apply _)

/-- Parameter 3 is the offset. -/
theorem param_D (c : Dev nD) : V m c main_v8 (word5 3) = argD m c only := by
  rw [arr_params]
  exact (concatenate_apply_piece (t := S5) 0 _ _ (word5 3) 3 (by show 3 < 5; omega) S1
    (broadcastInDim S1 ![] bcast_S_S1 (argD m c)) rfl rfl 3 rfl word1 (off_axis 3) rfl).trans (word_apply _)

/-- Parameter 4 is the logarithm of `Tau`. -/
theorem param_Tau (c : Dev nD) : V m c main_v8 (word5 4) = argTau m c only := by
  rw [arr_params]
  exact (concatenate_apply_piece (t := S5) 0 _ _ (word5 4) 4 (by show 4 < 5; omega) S1
    (broadcastInDim S1 ![] bcast_S_S1 (argTau m c)) rfl rfl 4 rfl word1 (off_axis 4) rfl).trans (word_apply _)

/-! ## The tables and `x` -/

/-- The time reaches the region as it is. -/
theorem time_apply (c : Dev nD) : V m c main_arg0 word1 = argT m c (ix1 0) := by
  rw [V_main_arg0]
  refine congrArg (argT m c) (funext fun b => ?_)
  match b with
  | ⟨0, _⟩ => rfl

/-- The `k`-th time lies at the `k`-th cell. -/
theorem times_apply (c : Dev nD) (k : Fin 131072) : V m c main_v1 (cell k) = argTs m c (ix1 k) := by
  rw [arr_ts]
  exact rows_apply (argTs m c) k

/-- The `k`-th input lies at the `k`-th cell. -/
theorem inputs_apply (c : Dev nD) (k : Fin 131072) : V m c main_v2 (cell k) = argUs m c (ix2 k 0) := by
  rw [arr_us]
  exact column_apply (argUs m c) k

/-- Entry `(p, e)` of `x` lies in row `p / 64` at lane `2 (p % 64) + e`. -/
theorem x_apply (c : Dev nD) (p : Fin 524288) (e : Fin 2) (q : Fin 8192) (l : Fin 128) (h : q.val * 128 + l.val = p.val * 2 + e.val) :
    V m c main_v0 (at8192 q l) = argX m c (ix2 p e) := by
  rw [arr_x]
  refine shapeCast_apply (argX m c) _ _ _ ?_
  exact ((Shape.rowMajor_val_two (d := ![524288, 2]) (ix2 p e)).trans
    ((Shape.rowMajor_val_two (d := ![8192, 128]) (at8192 q l)).trans h).symm)

/-- So does the result's. -/
theorem result_apply (c : Dev nD) (p : Fin 524288) (e : Fin 2) (q : Fin 8192) (l : Fin 128) (h : q.val * 128 + l.val = p.val * 2 + e.val) :
    shapeCast S524288x2 (output m c) shapeCasts_S8192x128_S524288x2 (ix2 p e) = output m c (at8192 q l) := by
  refine shapeCast_apply (output m c) _ _ _ ?_
  exact ((Shape.rowMajor_val_two (d := ![524288, 2]) (ix2 p e)).trans
    ((Shape.rowMajor_val_two (d := ![8192, 128]) (at8192 q l)).trans h).symm).symm

/-- The output at a row and a lane is the value of the row's block. -/
theorem output_apply (c : Dev nD) (q : Fin 8192) (l : Fin 128) :
    output m c (at8192 q l) = block (coefsOf m c) (rowsOf (V m c main_v0) (blockOf q)) (at1024 ⟨q.val % 1024, Nat.mod_lt _ (by decide)⟩ l) := by
  refine congrArg (block (coefsOf m c) (rowsOf (V m c main_v0) (blockOf q))) (funext fun a => ?_)
  match a with
  | ⟨0, _⟩ => rfl
  | ⟨1, _⟩ => rfl

/-- A row's block holds the row. -/
theorem rows_at (c : Dev nD) (q : Fin 8192) (l : Fin 128) :
    rowsOf (V m c main_v0) (blockOf q) (at1024 ⟨q.val % 1024, Nat.mod_lt _ (by decide)⟩ l) = V m c main_v0 (at8192 q l) := by
  refine congrArg (V m c main_v0) (funext fun a => Fin.ext ?_)
  match a with
  | ⟨0, _⟩ => show q.val / 1024 * 1024 + q.val % 1024 = q.val; omega
  | ⟨1, _⟩ => rfl

/-! ## The coefficients -/

/-- The first coefficient, `(Tau u - K δ) / J`, of the arguments. -/
theorem coef_A (c : Dev nD) : coefsOf m c (word3 0)
    = Ideal.div (Ideal.exp (argTau m c only) * forced (argT m c (ix1 0)) (fun k => argTs m c (ix1 k)) (fun k => argUs m c (ix2 k 0))
        - Ideal.exp (argK m c only) * argD m c only) (Ideal.exp (argJ m c only)) := by
  show coefA (F := Ideal) (V m c main_arg0) (V m c main_v8) (V m c main_v1) (V m c main_v2) = _
  have ets : (fun k => V m c main_v1 (cell k)) = fun k => argTs m c (ix1 k) := funext fun k => times_apply m c k
  unfold coefA
  rw [t1_eq, t2_eq, u1_eq, u2_eq, ets, time_apply, times_apply, times_apply, inputs_apply, inputs_apply, param_J, param_K, param_D, param_Tau]
  rfl

/-- The second coefficient is `R / J`. -/
theorem coef_R (c : Dev nD) : coefsOf m c (word3 1) = Ideal.div (Ideal.exp (argR m c only)) (Ideal.exp (argJ m c only)) := by
  show coefR (F := Ideal) (V m c main_v8) = _
  unfold coefR
  rw [param_J, param_R]
  rfl

/-- The third coefficient is `K / J`. -/
theorem coef_K (c : Dev nD) : coefsOf m c (word3 2) = Ideal.div (Ideal.exp (argK m c only)) (Ideal.exp (argJ m c only)) := by
  show coefK (F := Ideal) (V m c main_v8) = _
  unfold coefK
  rw [param_J, param_K]
  rfl

/-! ## The result -/

/-- The first column. -/
theorem col0 (c : Dev nD) (p : Fin 524288) :
    shapeCast S524288x2 (output m c) shapeCasts_S8192x128_S524288x2 (ix2 p 0) = argX m c (ix2 p 1) := by
  have hq : p.val / 64 < 8192 := by have := p.isLt; omega
  have hl : p.val % 64 * 2 + 1 < 128 := by omega
  rw [result_apply m c p 0 ⟨p.val / 64, hq⟩ ⟨p.val % 64 * 2, by omega⟩ (by show p.val / 64 * 128 + p.val % 64 * 2 = p.val * 2 + 0; omega),
    output_apply, block_even _ _ _ _ ⟨p.val % 64 * 2 + 1, hl⟩ (by show p.val % 64 * 2 % 2 = 0; omega) rfl, rows_at]
  exact x_apply m c p 1 _ _ (by show p.val / 64 * 128 + (p.val % 64 * 2 + 1) = p.val * 2 + 1; omega)

/-- The second column. -/
theorem col1 (c : Dev nD) (p : Fin 524288) :
    shapeCast S524288x2 (output m c) shapeCasts_S8192x128_S524288x2 (ix2 p 1)
      = parts (forced (argT m c (ix1 0)) (fun k => argTs m c (ix1 k)) (fun k => argUs m c (ix2 k 0))) (argJ m c only) (argR m c only)
          (argK m c only) (argD m c only) (argTau m c only) (argX m c (ix2 p 0)) (argX m c (ix2 p 1)) := by
  have hq : p.val / 64 < 8192 := by have := p.isLt; omega
  have hl : p.val % 64 * 2 + 1 < 128 := by omega
  rw [result_apply m c p 1 ⟨p.val / 64, hq⟩ ⟨p.val % 64 * 2 + 1, hl⟩ (by show p.val / 64 * 128 + (p.val % 64 * 2 + 1) = p.val * 2 + 1; omega),
    output_apply, block_odd _ _ _ _ ⟨p.val % 64 * 2, by omega⟩ (by show (p.val % 64 * 2 + 1) % 2 = 1; omega) rfl, rows_at, rows_at,
    x_apply m c p 1 _ _ (by show p.val / 64 * 128 + (p.val % 64 * 2 + 1) = p.val * 2 + 1; omega),
    x_apply m c p 0 _ _ (by show p.val / 64 * 128 + p.val % 64 * 2 = p.val * 2 + 0; omega), coef_A, coef_R, coef_K]
  rfl

end Cert.Proof.KernelValue

end
-- ==== Proof.RefValue.lean ====
/- Hand-written: WHAT THE REFERENCE COMPUTES, entry by entry, over the extended reals. Every one of its 524288 rows looks up
   the same time: the row's sum of comparisons is the count of the table (`sum_eq`), the clipped count and the one before it
   are the picked positions (`clipped_eq`, `previous_eq`), which a gather reads back from the table (`time_at`,
   `input_at`). So the first column of the result is the second column of `x` (`col0`) and the second is `rate` of the forcing
   term (`col1`). -/
module

public import proofs.«01_k».proof.Proof.KernelValue
public import proofs.«01_k».proof.Proof.Gen.ReferenceIdeal.Run
public import Idealize.ShloMosaic.Lib.Routing.OpsSet
public import Idealize.ShloMosaic.Lib.IdealHost

@[expose] public section

noncomputable section

open scoped BigOperators

namespace Cert.Proof.RefValue

open Cert.ReferenceIdeal Cert.ReferenceIdeal.Gen Cert.Proof.Equation
open Idealize.ShloMosaic Idealize.ShloMosaic.TcCoe Idealize.ShloMosaic.ValueIdx
open Cert.Proof.Lookup (below below_le position place before position_eq position_sub_one toInt_small)
open Cert.Proof.KernelValue (forced only)

/-! ## The reference's steps -/

/-- The time in every row. -/
def times (t : Vec Ideal S1 .f32) : FVec Ideal S524288x1 .f32 :=
  mulf (broadcastInDim S524288x1 ![0, 1] bcast_S1x1_S524288x1_0_1 (broadcastInDim S1x1 ![1] bcast_S1_S1x1_1 t))
    (broadcastInDim S524288x1 ![] bcast_S_S524288x1 (constant (F := Ideal) S_ .f32 0x3F800000#32))

/-- Which entries are at most the row's time. -/
def atMost (t : Vec Ideal S1 .f32) (ts : Vec Ideal S131072 .f32) : IVec S524288x131072 1 :=
  cmpf .ole (broadcastInDim S524288x131072 ![0, 1] bcast_S1x131072_S524288x131072_0_1
      (broadcastInDim S1x131072 ![1] bcast_S131072_S1x131072_1 ts))
    (broadcastInDim S524288x131072 ![0, 1] bcast_S524288x1_S524288x131072_0_1 (times t))

/-- Each row's sum of comparisons. -/
def sums (t : Vec Ideal S1 .f32) (ts : Vec Ideal S131072 .f32) : IVec S524288 32 :=
  Host.reduce IntOp.addi (extui 32 (atMost t ts) natLt_1_32) (constantI S_ 32 0#32) reducesTo_S524288x131072_S524288_d1 h_S_

/-- The sums clipped to 1 … 131071. -/
def clipped (t : Vec Ideal S1 .f32) (ts : Vec Ideal S131072 .f32) : IVec S524288 32 :=
  minsi (broadcastInDim S524288 ![] bcast_S_S524288 (id (constantI S_ 32 131071#32)))
    (maxsi (broadcastInDim S524288 ![] bcast_S_S524288 (id (constantI S_ 32 1#32))) (sums t ts))

/-- The positions before them. -/
def previous (t : Vec Ideal S1 .f32) (ts : Vec Ideal S131072 .f32) : IVec S524288 32 :=
  subi (clipped t ts) (broadcastInDim S524288 ![] bcast_S_S524288 (constantI S_ 32 1#32))

/-- Positions as indices of a gather: a negative one counts from the end. -/
def wrapped (w : IVec S524288 32) : IVec S524288x1 32 :=
  broadcastInDim S524288x1 ![0] bcast_S524288_S524288x1_0
    (select (cmpi .slt w (broadcastInDim S524288 ![] bcast_S_S524288 (constantI S_ 32 0#32)))
      (addi w (broadcastInDim S524288 ![] bcast_S_S524288 (constantI S_ 32 131072#32))) w)

/-- The times at the positions. -/
def timeAt (ts : Vec Ideal S131072 .f32) (w : IVec S524288 32) : FVec Ideal S524288x1 .f32 :=
  broadcastInDim S524288x1 ![0] bcast_S524288_S524288x1_0
    (Host.gather gather_S131072_S524288x1_S524288_n_0_n_n_0_1_1 ts (wrapped w))

/-- The inputs at the positions. -/
def inputAt (us : Vec Ideal S131072x1 .f32) (w : IVec S524288 32) : FVec Ideal S524288x1 .f32 :=
  Host.gather gather_S131072x1_S524288x1_S524288x1_1_0_n_n_0_1_11 us (wrapped w)

/-- The length of the step of the table. -/
def step (t : Vec Ideal S1 .f32) (ts : Vec Ideal S131072 .f32) : FVec Ideal S524288x1 .f32 :=
  subf (timeAt ts (clipped t ts)) (timeAt ts (previous t ts))

/-- The forcing term of every row. -/
def forcings (t : Vec Ideal S1 .f32) (ts : Vec Ideal S131072 .f32) (us : Vec Ideal S131072x1 .f32) : FVec Ideal S524288x1 .f32 :=
  addf (inputAt us (previous t ts))
    (mulf (Host.divf (subf (times t) (timeAt ts (previous t ts)))
        (select (cmpf .olt (step t ts) (broadcastInDim S524288x1 ![] bcast_S_S524288x1 (constant (F := Ideal) S_ .f32 0x358637BD#32)))
          (broadcastInDim S524288x1 ![] bcast_S_S524288x1 (constant (F := Ideal) S_ .f32 0x3F800000#32)) (step t ts)))
      (subf (inputAt us (clipped t ts)) (inputAt us (previous t ts))))

/-- The second column of `x`. -/
def velocity (x : Vec Ideal S524288x2 .f32) : FVec Ideal S524288x1 .f32 :=
  extractStridedSlice S524288x1 ![0, 1] x slices_S524288x2_S524288x1_0_1

/-- A scalar in every row. -/
def every (a : FVec Ideal S_ .f32) : FVec Ideal S524288x1 .f32 := broadcastInDim S524288x1 ![] bcast_S_S524288x1 a

/-- The second column of the result. -/
def rates (t : Vec Ideal S1 .f32) (x : Vec Ideal S524288x2 .f32) (ts : Vec Ideal S131072 .f32) (us : Vec Ideal S131072x1 .f32)
    (lJ lR lK δ lT : Vec Ideal S_ .f32) : FVec Ideal S524288x1 .f32 :=
  Host.divf (subf (subf (mulf (every (Host.exp lT)) (forcings t ts us)) (mulf (every (Host.exp lR)) (velocity x)))
    (mulf (every (Host.exp lK)) (addf (extractStridedSlice S524288x1 ![0, 0] x slices_S524288x2_S524288x1_0_0) (every δ))))
    (every (Host.exp lJ))

/-- The result. -/
def whole (t : Vec Ideal S1 .f32) (x : Vec Ideal S524288x2 .f32) (ts : Vec Ideal S131072 .f32) (us : Vec Ideal S131072x1 .f32)
    (lJ lR lK δ lT : Vec Ideal S_ .f32) : FVec Ideal S524288x2 .f32 :=
  concatenate S524288x2 1 [⟨S524288x1, velocity x⟩, ⟨S524288x1, rates t x ts us lJ lR lK δ lT⟩]
    concatenates_S524288x1_S524288x1_S524288x2_d1

set_option maxRecDepth 8192 in
/-- The reference's result is made of these steps. -/
theorem result_eq (m : (ℓ : Loc nD τ sig) → Buf (Elt Ideal) ℓ) (c : Dev nD) :
    Value.res_main_v74 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := rfl

/-! ## The count -/

/-- The time, for every row. -/
theorem times_apply (t : Vec Ideal S1 .f32) (p : Fin 524288) (e : Fin 1) : times t (ix2 p e) = t (ix1 0) := by
  have h : broadcastInDim S524288x1 ![0, 1] bcast_S1x1_S524288x1_0_1 (broadcastInDim S1x1 ![1] bcast_S1_S1x1_1 t) (ix2 p e) = t (ix1 0) := by
    refine congrArg t (funext fun b => Fin.ext ?_)
    match b with
    | ⟨0, _⟩ => rfl
  show (broadcastInDim S524288x1 ![0, 1] bcast_S1x1_S524288x1_0_1 (broadcastInDim S1x1 ![1] bcast_S1_S1x1_1 t) (ix2 p e) : EReal)
    * Ideal.ofBits .f32 0x3F800000#32 = t (ix1 0)
  rw [h, Ideal.ofBits_one_f32, mul_one]

/-- The comparison of row `p` with the `k`-th time. -/
theorem atMost_apply (t : Vec Ideal S1 .f32) (ts : Vec Ideal S131072 .f32) (p : Fin 524288) (k : Fin 131072) :
    atMost t ts (ix2 p k) = FloatOps.cmpf (F := Ideal) (φ := .f32) .ole (ts (ix1 k)) (t (ix1 0)) := by
  have h0 : broadcastInDim S524288x131072 ![0, 1] bcast_S1x131072_S524288x131072_0_1
      (broadcastInDim S1x131072 ![1] bcast_S131072_S1x131072_1 ts) (ix2 p k) = ts (ix1 k) := by
    refine congrArg ts (funext fun b => Fin.ext ?_)
    match b with
    | ⟨0, _⟩ => rfl
  have h1 : broadcastInDim S524288x131072 ![0, 1] bcast_S524288x1_S524288x131072_0_1 (times t) (ix2 p k) = times t (ix2 p 0) := by
    refine congrArg (times t) (funext fun b => Fin.ext ?_)
    match b with
    | ⟨0, _⟩ => rfl
    | ⟨1, _⟩ => rfl
  show FloatOps.cmpf (F := Ideal) (φ := .f32) .ole _ _ = _
  rw [h0, h1, times_apply]

/-- The sum of the comparisons is the number of times at most `t`. -/
theorem sum_eq (t : Vec Ideal S1 .f32) (ts : Vec Ideal S131072 .f32) (p : Fin 524288) :
    sums t ts (ix1 p) = BitVec.ofNat 32 (below (fun k => ts (ix1 k)) (t (ix1 0))) := by
  have hr : S524288x131072.Reduces [1] S524288 := by decide
  have hl : ∀ k : Fin 131072, hr.lift (ix1 p) k = ix2 p k := fun k => by
    funext b
    apply Fin.ext
    match b with
    | ⟨0, _⟩ => rfl
    | ⟨1, _⟩ => rfl
  have e := Host.reduce_eq_fold_single IntOp.addi (extui 32 (atMost t ts) natLt_1_32) (constantI S_ 32 0#32)
    reducesTo_S524288x131072_S524288_d1 hr h_S_ (ix1 p)
  have f := IndicatorCount.fold_addi_setWidth_eq_card (w := 32) (fun k : Fin 131072 => atMost t ts (ix2 p k)) Finset.univ
  refine e.trans (Eq.trans ?_ (f.trans (congrArg (BitVec.ofNat 32) ?_)))
  · refine congrArg (fun g => Finset.fold IntOp.addi 0#32 g (Finset.univ : Finset (Fin 131072))) (funext fun k => ?_)
    exact congrArg (fun i => (atMost t ts i).setWidth 32) (hl k)
  · simp only [atMost_apply]
    rfl

/-- The clipped count is the entry picked. -/
theorem clipped_eq (t : Vec Ideal S1 .f32) (ts : Vec Ideal S131072 .f32) (p : Fin 524288) :
    clipped t ts (ix1 p) = BitVec.ofNat 32 (place (below (fun k => ts (ix1 k)) (t (ix1 0)))).val := by
  rw [← position_eq _ (below_le _ _), ← sum_eq t ts p]
  rfl

/-- Less one, it is the entry before. -/
theorem previous_eq (t : Vec Ideal S1 .f32) (ts : Vec Ideal S131072 .f32) (p : Fin 524288) :
    previous t ts (ix1 p) = BitVec.ofNat 32 (before (below (fun k => ts (ix1 k)) (t (ix1 0)))).val := by
  rw [← position_sub_one _ (below_le _ _), ← sum_eq t ts p]
  rfl

/-! ## The lookups -/

/-- A position in the table is not negative, so it is its own index. -/
theorem wrapped_eq (w : IVec S524288 32) (p : Fin 524288) (e : Fin 1) (b : Fin 131072) (h : w (ix1 p) = BitVec.ofNat 32 b.val) :
    wrapped w (ix2 p e) = BitVec.ofNat 32 b.val := by
  have hj : wrapped w (ix2 p e) = (if IntOp.cmpi .slt (w (ix1 p)) 0#32 = 1#1 then IntOp.addi (w (ix1 p)) 131072#32 else w (ix1 p)) := by
    refine congrArg (select (cmpi .slt w (broadcastInDim S524288 ![] bcast_S_S524288 (constantI S_ 32 0#32)))
      (addi w (broadcastInDim S524288 ![] bcast_S_S524288 (constantI S_ 32 131072#32))) w) (?_ : _ = ix1 p)
    funext a
    apply Fin.ext
    match a with
    | ⟨0, _⟩ => rfl
  have hn : IntOp.cmpi .slt (BitVec.ofNat 32 b.val) 0#32 = BitVec.ofBool ((BitVec.ofNat 32 b.val).slt 0#32) := rfl
  rw [hj, h, hn, BitVec.slt_eq_decide, toInt_small b.val (by have := b.isLt; omega)]
  rw [if_neg]
  rw [decide_eq_false (by simp)]
  decide

/-- A gather of the times at a known position. -/
theorem time_at (ts : Vec Ideal S131072 .f32) (w : IVec S524288 32) (p : Fin 524288) (e : Fin 1) (b : Fin 131072)
    (h : w (ix1 p) = BitVec.ofNat 32 b.val) : timeAt ts w (ix2 p e) = ts (ix1 b) := by
  refine Eq.trans ?_ (Routing.gather_take1 (N := 131072) (n := 524288) gather_S131072_S524288x1_S524288_n_0_n_n_0_1_1 rfl rfl rfl rfl
    ts (wrapped w) p b (wrapped_eq w p 0 b h) (by norm_num))
  refine congrArg (Host.gather gather_S131072_S524288x1_S524288_n_0_n_n_0_1_1 ts (wrapped w)) (funext fun a => Fin.ext ?_)
  match a with
  | ⟨0, _⟩ => rfl

/-- A gather of the inputs at a known position. -/
theorem input_at (us : Vec Ideal S131072x1 .f32) (w : IVec S524288 32) (p : Fin 524288) (b : Fin 131072)
    (h : w (ix1 p) = BitVec.ofNat 32 b.val) : inputAt us w (ix2 p 0) = us (ix2 b 0) :=
  Routing.gather_row (nb := 131072) (B := 1) (n := 524288) gather_S131072x1_S524288x1_S524288x1_1_0_n_n_0_1_11 rfl rfl rfl rfl rfl
    us (wrapped w) p 0 b (wrapped_eq w p 0 b h) (by norm_num)

/-! ## The columns -/

/-- The forcing term of every row. -/
theorem forcings_apply (t : Vec Ideal S1 .f32) (ts : Vec Ideal S131072 .f32) (us : Vec Ideal S131072x1 .f32) (p : Fin 524288) :
    forcings t ts us (ix2 p 0) = forced (t (ix1 0)) (fun k => ts (ix1 k)) (fun k => us (ix2 k 0)) := by
  have e : forcings t ts us (ix2 p 0) = forcing (times t (ix2 p 0)) (timeAt ts (previous t ts) (ix2 p 0)) (timeAt ts (clipped t ts) (ix2 p 0))
      (inputAt us (previous t ts) (ix2 p 0)) (inputAt us (clipped t ts) (ix2 p 0)) := rfl
  rw [e, times_apply, time_at ts _ p 0 _ (previous_eq t ts p), time_at ts _ p 0 _ (clipped_eq t ts p),
    input_at us _ p _ (previous_eq t ts p), input_at us _ p _ (clipped_eq t ts p)]
  rfl

/-- A scalar, for every row. -/
theorem every_apply (a : FVec Ideal S_ .f32) (j : S524288x1.Idx) : every a j = a only :=
  congrArg a (funext fun b => b.elim0)

/-- The velocity is the second entry of a row. -/
theorem velocity_apply (x : Vec Ideal S524288x2 .f32) (p : Fin 524288) : velocity x (ix2 p 0) = x (ix2 p 1) := by
  refine congrArg x (funext fun b => Fin.ext ?_)
  match b with
  | ⟨0, _⟩ => exact Nat.zero_add _
  | ⟨1, _⟩ => rfl

/-- The angle is the first entry of a row. -/
theorem angle_apply (x : Vec Ideal S524288x2 .f32) (p : Fin 524288) :
    extractStridedSlice S524288x1 ![0, 0] x slices_S524288x2_S524288x1_0_0 (ix2 p 0) = x (ix2 p 0) := by
  refine congrArg x (funext fun b => Fin.ext ?_)
  match b with
  | ⟨0, _⟩ => exact Nat.zero_add _
  | ⟨1, _⟩ => rfl

section
variable (t : Vec Ideal S1 .f32) (x : Vec Ideal S524288x2 .f32) (ts : Vec Ideal S131072 .f32) (us : Vec Ideal S131072x1 .f32)
  (lJ lR lK δ lT : Vec Ideal S_ .f32) (p : Fin 524288)

/-- The second column of the reference is `rate` of the arguments. -/
theorem rates_apply : rates t x ts us lJ lR lK δ lT (ix2 p 0)
    = rate (forced (t (ix1 0)) (fun k => ts (ix1 k)) (fun k => us (ix2 k 0))) (lJ only) (lR only) (lK only) (δ only) (lT only)
        (x (ix2 p 0)) (x (ix2 p 1)) := by
  have e : rates t x ts us lJ lR lK δ lT (ix2 p 0) = Ideal.div
      (((every (Host.exp lT) (ix2 p 0) : EReal) * forcings t ts us (ix2 p 0) - (every (Host.exp lR) (ix2 p 0) : EReal) * velocity x (ix2 p 0))
        - (every (Host.exp lK) (ix2 p 0) : EReal)
          * ((extractStridedSlice S524288x1 ![0, 0] x slices_S524288x2_S524288x1_0_0 (ix2 p 0) : EReal) + every δ (ix2 p 0)))
      (every (Host.exp lJ) (ix2 p 0)) := rfl
  rw [e, forcings_apply, velocity_apply, angle_apply]
  simp only [every_apply]
  rfl

/-- The first column. -/
theorem col0 : whole t x ts us lJ lR lK δ lT (ix2 p 0) = x (ix2 p 1) := by
  refine (concatenate_pair_apply_left (t := S524288x2) (s₁ := S524288x1) (s₂ := S524288x1) 1 (velocity x) (rates t x ts us lJ lR lK δ lT)
    concatenates_S524288x1_S524288x1_S524288x2_d1 (ix2 p 0) rfl (ix2 p 0) fun b => ?_).trans (velocity_apply x p)
  match b with
  | ⟨0, _⟩ => rfl
  | ⟨1, _⟩ => rfl

/-- The second column. -/
theorem col1 : whole t x ts us lJ lR lK δ lT (ix2 p 1)
    = rate (forced (t (ix1 0)) (fun k => ts (ix1 k)) (fun k => us (ix2 k 0))) (lJ only) (lR only) (lK only) (δ only) (lT only)
        (x (ix2 p 0)) (x (ix2 p 1)) := by
  refine (concatenate_pair_apply_right (t := S524288x2) (s₁ := S524288x1) (s₂ := S524288x1) 1 (velocity x) (rates t x ts us lJ lR lK δ lT)
    concatenates_S524288x1_S524288x1_S524288x2_d1 (ix2 p 1) rfl rfl (ix2 p 0) (fun b hb => ?_) rfl).trans (rates_apply t x ts us lJ lR lK δ lT p)
  match b with
  | ⟨0, _⟩ => rfl
  | ⟨1, _⟩ => exact absurd rfl hb

end

end Cert.Proof.RefValue

end
-- ==== Proof.Precondition.lean ====
/- Hand-written: WHAT THE PRECONDITION SAYS over the extended reals: the logarithm of `J` is not minus infinity, that of `K` is
   not infinity, and the offset is finite (`meaning`). -/
module

public import proofs.«01_k».proof.Pre_division_distributes
public import Idealize.ShloMosaic.PureOps.Ideal.Laws
public import Idealize.ShloMosaic.Lib.Affine

@[expose] public section

noncomputable section

namespace Cert.Proof.Precondition

open Idealize.ShloMosaic

/-- The word of plus infinity. -/
theorem word_top : Ideal.ofBits .f32 0x7F800000#32 = ⊤ := by simp [Ideal.ofBits, Ideal.ieee]

/-- The word of minus infinity. -/
theorem word_bot : Ideal.ofBits .f32 0xFF800000#32 = ⊥ := by simp [Ideal.ofBits, Ideal.ieee]

/-- A comparison that gives the word one holds. -/
theorem lt_of_cmp {a b : EReal} (h : Ideal.cmp .olt a b = 1#1) : a < b := by
  by_contra hn
  have e : Ideal.cmp .olt a b = BitVec.ofBool (decide (a < b)) := rfl
  rw [e, decide_eq_false hn] at h
  exact absurd h (by decide)

/-- The same for the opposite comparison. -/
theorem gt_of_cmp {a b : EReal} (h : Ideal.cmp .ogt a b = 1#1) : b < a := by
  by_contra hn
  have e : Ideal.cmp .ogt a b = BitVec.ofBool (decide (b < a)) := rfl
  rw [e, decide_eq_false hn] at h
  exact absurd h (by decide)

/-- A scalar's one place. -/
def only : Cert.Pre_division_distributes.S_.Idx := fun a => a.elim0

/-- The precondition, of the three arguments that it speaks of. -/
theorem meaning [Cert.Pre_division_distributes.Facts] (a0 : FVec Ideal Cert.Pre_division_distributes.S1 .f32)
    (a1 : FVec Ideal Cert.Pre_division_distributes.S524288x2 .f32) (a2 : FVec Ideal Cert.Pre_division_distributes.S131072 .f32)
    (a3 : FVec Ideal Cert.Pre_division_distributes.S131072x1 .f32) (a4 a5 a6 a7 a8 : FVec Ideal Cert.Pre_division_distributes.S_ .f32)
    (h : Cert.Pre_division_distributes.fn (F := Ideal) a0 a1 a2 a3 a4 a5 a6 a7 a8 = fun _ => 1#1) :
    a4 only ≠ (⊥ : EReal) ∧ a6 only ≠ (⊤ : EReal) ∧ a7 only ≠ (⊥ : EReal) ∧ a7 only ≠ (⊤ : EReal) := by
  have h' := congrFun h only
  have e : Cert.Pre_division_distributes.fn (F := Ideal) a0 a1 a2 a3 a4 a5 a6 a7 a8 only
      = IntOp.andi (IntOp.andi (Ideal.cmp .ogt (a4 only) (Ideal.ofBits .f32 0xFF800000#32)) (Ideal.cmp .olt (a6 only) (Ideal.ofBits .f32 0x7F800000#32)))
          (Ideal.cmp .olt (max (a7 only : EReal) (-(a7 only : EReal))) (Ideal.ofBits .f32 0x7F800000#32)) := rfl
  rw [e, IntOp.andi_eq_one, IntOp.andi_eq_one, word_top, word_bot] at h'
  obtain ⟨⟨hJ, hK⟩, hδ⟩ := h'
  have hJ' := gt_of_cmp hJ
  have hK' := lt_of_cmp hK
  obtain ⟨hδ1, hδ2⟩ := max_lt_iff.1 (lt_of_cmp hδ)
  refine ⟨hJ'.ne', hK'.ne, fun hb => ?_, hδ1.ne⟩
  rw [hb] at hδ2
  exact absurd hδ2 (by rw [EReal.neg_bot]; exact lt_irrefl _)

end Cert.Proof.Precondition

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import proofs.«01_k».proof.Proof.Precondition
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.TcCoe Idealize.ShloMosaic.ValueIdx

/-- What the kernel leaves in its result on core `c`. -/
def kernelResult (m : (ℓ : Loc Cert.KernelIdeal.nD Cert.KernelIdeal.τ Cert.KernelIdeal.sig) → Buf (Elt Ideal) ℓ) (c : Dev Cert.KernelIdeal.nD) :
    Vec Ideal Cert.KernelIdeal.S524288x2 .f32 :=
  shapeCast Cert.KernelIdeal.S524288x2 (Array.output m c) Cert.KernelIdeal.Gen.shapeCasts_S8192x128_S524288x2

/-- Every run of the kernel leaves that result and the arguments unchanged. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v10) = kernelResult m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run _ _ _).mono (fun _ h c => ⟨((h.1 c).2 Cert.KernelIdeal.main_v10
      (Pipeline.mem_restRefs_of Cert.KernelIdeal.main_v10 (by decide) (by decide))).trans (Array.result_eq m c), h.2 c⟩)
    (θ_run_and (Cert.KernelIdeal.Gen.run_main (F := Ideal) m g) (Cert.KernelIdeal.Gen.unchanged (F := Ideal) m g))

/-- An array of two columns is what its columns are. -/
theorem columns_ext {f g : Cert.KernelIdeal.S524288x2.Idx → EReal} (h0 : ∀ p : Fin 524288, f (ix2 p 0) = g (ix2 p 0))
    (h1 : ∀ p : Fin 524288, f (ix2 p 1) = g (ix2 p 1)) : f = g := by
  have h : ∀ (p : Fin 524288) (e : Fin 2), f (ix2 p e) = g (ix2 p e) := fun p e => match e with
    | 0 => h0 p
    | 1 => h1 p
  funext j
  rw [eq_ix2 j]
  exact h (j 0) (j 1)

/-- Under the precondition the kernel's result is the reference's, of the same arguments. -/
theorem results_eq (m : (ℓ : Loc Cert.KernelIdeal.nD Cert.KernelIdeal.τ Cert.KernelIdeal.sig) → Buf (Elt Ideal) ℓ) (c : Dev Cert.KernelIdeal.nD)
    (hJ : KernelValue.argJ m c KernelValue.only ≠ (⊥ : EReal)) (hK : KernelValue.argK m c KernelValue.only ≠ (⊤ : EReal))
    (hδ0 : KernelValue.argD m c KernelValue.only ≠ (⊥ : EReal)) (hδ1 : KernelValue.argD m c KernelValue.only ≠ (⊤ : EReal)) :
    kernelResult m c = RefValue.whole (KernelValue.argT m c) (KernelValue.argX m c) (KernelValue.argTs m c) (KernelValue.argUs m c)
      (KernelValue.argJ m c) (KernelValue.argR m c) (KernelValue.argK m c) (KernelValue.argD m c) (KernelValue.argTau m c) :=
  columns_ext (fun p => (KernelValue.col0 m c p).trans (RefValue.col0 _ _ _ _ _ _ _ _ _ p).symm)
    (fun p => ((KernelValue.col1 m c p).trans (Equation.rate_eq _ _ _ _ _ _ _ _ hJ hK hδ0 hδ1)).trans (RefValue.col1 _ _ _ _ _ _ _ _ _ p).symm)

/-- The precondition states nothing to witness. -/
theorem preFacts : Cert.Pre_division_distributes.Facts := ⟨⟩

/-- Kernel and reference compute the same function over the extended reals. -/
theorem algebraic : Cert.algebraic_KernelIdeal_ReferenceIdeal_pre_division_distributes (hKernelIdeal := Cert.KernelIdeal.Gen.facts)
    (hReferenceIdeal := Cert.ReferenceIdeal.Gen.facts) (hPre_division_distributes := preFacts) := by
  intro m g m' g' hpre hargs
  refine ⟨fun c => kernelResult m c, kernel_run m g, ?_⟩
  refine (θ_run _ _ _).mono (fun _ h c => ⟨(h c).1.trans ?_, (h c).2⟩) (Cert.ReferenceIdeal.Value.run (F := Ideal) m' g')
  obtain ⟨a0, a1, a2, a3, a4, a5, a6, a7, a8⟩ := hargs c
  haveI := preFacts
  obtain ⟨hJ, hK, hδ0, hδ1⟩ := Precondition.meaning _ _ _ _ _ _ _ _ _ (hpre c)
  rw [RefValue.result_eq, a0, a1, a2, a3, a4, a5, a6, a7, a8]
  exact (results_eq m c hJ hK hδ0 hδ1).symm

/-- The reference's frame. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- THE FIVE CLAIMS, under their stated conditions. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => reference_frame m g, fun m g _ => reference_frame m g, trivial, algebraic⟩

end Cert.Proof

end
